-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "big" .f32 0x501502F9#32 ⊤
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512x64 : Shape := ⟨3, ![64, 512, 64]⟩
abbrev S64x1 : Shape := ⟨2, ![64, 1]⟩
abbrev S64 : Shape := ⟨1, ![64]⟩
abbrev S32x1 : Shape := ⟨2, ![32, 1]⟩
abbrev S512x32x512 : Shape := ⟨3, ![512, 32, 512]⟩
abbrev S8x512x512 : Shape := ⟨3, ![8, 512, 512]⟩
abbrev S2x512x64 : Shape := ⟨3, ![2, 512, 64]⟩
abbrev S2 : Shape := ⟨1, ![2]⟩
abbrev S1x64 : Shape := ⟨2, ![1, 64]⟩
abbrev S512x128 : Shape := ⟨2, ![512, 128]⟩
abbrev S1 : Shape := ⟨1, ![1]⟩
abbrev S_ : Shape := ⟨0, ![]⟩
abbrev S1x512x64 : Shape := ⟨3, ![1, 512, 64]⟩
abbrev S512x64 : Shape := ⟨2, ![512, 64]⟩
abbrev S1x512 : Shape := ⟨2, ![1, 512]⟩
abbrev S512 : Shape := ⟨1, ![512]⟩
abbrev S512x1 : Shape := ⟨2, ![512, 1]⟩
abbrev S128x64 : Shape := ⟨2, ![128, 64]⟩
abbrev S1x128 : Shape := ⟨2, ![1, 128]⟩
abbrev S1x512x128 : Shape := ⟨3, ![1, 512, 128]⟩
abbrev S8x8x128 : Shape := ⟨3, ![8, 8, 128]⟩
abbrev S8x512 : Shape := ⟨2, ![8, 512]⟩
abbrev S1x8x512 : Shape := ⟨3, ![1, 8, 512]⟩
abbrev S8x1 : Shape := ⟨2, ![8, 1]⟩

abbrev nBuf : Space → Nat
  | .hbm => 4
  | .vmem => 6
  | .smem => 0
  | _ => 0

abbrev bufTy : (tb : Table) → Fin (tcTables nBuf tb) → BufTy
  | .hbm, ⟨0, _⟩ => ⟨S64x512x64, .f32⟩
  | .hbm, ⟨1, _⟩ => ⟨S64x512x64, .f32⟩
  | .hbm, ⟨2, _⟩ => ⟨S64x1, .f32⟩
  | .hbm, ⟨3, _⟩ => ⟨S64, .f32⟩
  | .local _ .vmem, ⟨0, _⟩ => ⟨S32x1, .f32⟩
  | .local _ .vmem, ⟨1, _⟩ => ⟨S32x1, .f32⟩
  | .local _ .vmem, ⟨2, _⟩ => ⟨S512x32x512, .f32⟩
  | .local _ .vmem, ⟨3, _⟩ => ⟨S8x512x512, .f32⟩
  | .local _ .vmem, ⟨4, _⟩ => ⟨S2x512x64, .f32⟩
  | .local _ .vmem, ⟨5, _⟩ => ⟨S2x512x64, .f32⟩
  | _, _ => ⟨S64x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![2], ![false]⟩

def k0_off1 (i : grid0.Coords) : Fin 3 → Nat :=
  let arg0 : BitVec 32 := BitVec.ofNat 32 (i 0).val
  let c32_i32 : BitVec 32 := 32#32
  let v2 : BitVec 32 := Scalar.muli arg0 c32_i32
  let c0_i32 : BitVec 32 := 0#32
  let v3 : BitVec 32 := Scalar.addi v2 c0_i32
  let c0_i32_4 : BitVec 32 := 0#32
  let c0_i32_5 : BitVec 32 := 0#32
  ![v3.toNat, 0, 0]
@[reducible] def k0_t1_loop : Scf.Loop 32 :=
  let c0_i32_12 : BitVec 32 := 0#32
  let c4_i32 : BitVec 32 := 4#32
  let v16 : BitVec 32 := Scalar.addi c0_i32_12 c4_i32
  let c1_i32 : BitVec 32 := 1#32
  ⟨c0_i32_12, v16, c1_i32⟩
@[reducible] def k0_t2_loop : Scf.Loop 32 :=
  let c0_i32_87 : BitVec 32 := 0#32
  let c8_i32 : BitVec 32 := 8#32
  let v220 : BitVec 32 := Scalar.addi c0_i32_87 c8_i32
  let c1_i32_88 : BitVec 32 := 1#32
  ⟨c0_i32_87, v220, c1_i32_88⟩
def k0_cond1 (k0_t1 : Fin k0_t1_loop.trips) (k0_t2 : Fin k0_t2_loop.trips) : BitVec 1 :=
  let c0_i32_12 : BitVec 32 := 0#32
  let c1_i32 : BitVec 32 := 1#32
  let arg10 : BitVec 32 := Scf.iv c0_i32_12 c1_i32 k0_t1
  let c8_i32_93 : BitVec 32 := 8#32
  let v222 : BitVec 32 := Scalar.muli arg10 c8_i32_93
  let c0_i32_87 : BitVec 32 := 0#32
  let c1_i32_88 : BitVec 32 := 1#32
  let arg11 : BitVec 32 := Scf.iv c0_i32_87 c1_i32_88 k0_t2
  let v223 : BitVec 32 := Scalar.addi v222 arg11
  let c1_i32_94 : BitVec 32 := 1#32
  let v225 : BitVec 32 := Scalar.addi v223 c1_i32_94
  let c32_i32_95 : BitVec 32 := 32#32
  let v226 : BitVec 1 := Scalar.cmpi .slt v225 c32_i32_95
  let v227 : BitVec 32 := Scalar.extui v226
  let c0_i32_96 : BitVec 32 := 0#32
  let v228 : BitVec 1 := Scalar.cmpi .ne v227 c0_i32_96
  v228

def k0_off2 (k0_t1 : Fin k0_t1_loop.trips) (k0_t2 : Fin k0_t2_loop.trips) : Fin 1 → Nat :=
  let c0_i32_12 : BitVec 32 := 0#32
  let c1_i32 : BitVec 32 := 1#32
  let arg10 : BitVec 32 := Scf.iv c0_i32_12 c1_i32 k0_t1
  let c8_i32_93 : BitVec 32 := 8#32
  let v222 : BitVec 32 := Scalar.muli arg10 c8_i32_93
  let c0_i32_87 : BitVec 32 := 0#32
  let c1_i32_88 : BitVec 32 := 1#32
  let arg11 : BitVec 32 := Scf.iv c0_i32_87 c1_i32_88 k0_t2
  let v223 : BitVec 32 := Scalar.addi v222 arg11
  let c1_i32_219 : BitVec 32 := 1#32
  let v501 : BitVec 32 := Scalar.addi v223 c1_i32_219
  let c2_i32_220 : BitVec 32 := 2#32
  let v502 : BitVec 32 := Scalar.remsi v501 c2_i32_220
  ![v502.toNat]
def k0_off3 (k0_t1 : Fin k0_t1_loop.trips) (k0_t2 : Fin k0_t2_loop.trips) : Fin 3 → Nat :=
  let c0_i32_12 : BitVec 32 := 0#32
  let c1_i32 : BitVec 32 := 1#32
  let arg10 : BitVec 32 := Scf.iv c0_i32_12 c1_i32 k0_t1
  let c8_i32_93 : BitVec 32 := 8#32
  let v222 : BitVec 32 := Scalar.muli arg10 c8_i32_93
  let c0_i32_87 : BitVec 32 := 0#32
  let c1_i32_88 : BitVec 32 := 1#32
  let arg11 : BitVec 32 := Scf.iv c0_i32_87 c1_i32_88 k0_t2
  let v223 : BitVec 32 := Scalar.addi v222 arg11
  let c1_i32_219 : BitVec 32 := 1#32
  let v501 : BitVec 32 := Scalar.addi v223 c1_i32_219
  let c2_i32_220 : BitVec 32 := 2#32
  let v502 : BitVec 32 := Scalar.remsi v501 c2_i32_220
  let c0_i32_222 : BitVec 32 := 0#32
  let c0_i32_223 : BitVec 32 := 0#32
  ![v502.toNat, 0, 0]
def k0_off4 (i : grid0.Coords) (k0_t1 : Fin k0_t1_loop.trips) (k0_t2 : Fin k0_t2_loop.trips) : Fin 3 → Nat :=
  let arg0 : BitVec 32 := BitVec.ofNat 32 (i 0).val
  let c32_i32_221 : BitVec 32 := 32#32
  let v503 : BitVec 32 := Scalar.muli arg0 c32_i32_221
  let c0_i32_12 : BitVec 32 := 0#32
  let c1_i32 : BitVec 32 := 1#32
  let arg10 : BitVec 32 := Scf.iv c0_i32_12 c1_i32 k0_t1
  let c8_i32_93 : BitVec 32 := 8#32
  let v222 : BitVec 32 := Scalar.muli arg10 c8_i32_93
  let c0_i32_87 : BitVec 32 := 0#32
  let c1_i32_88 : BitVec 32 := 1#32
  let arg11 : BitVec 32 := Scf.iv c0_i32_87 c1_i32_88 k0_t2
  let v223 : BitVec 32 := Scalar.addi v222 arg11
  let c1_i32_218 : BitVec 32 := 1#32
  let v500 : BitVec 32 := Scalar.addi v223 c1_i32_218
  let v504 : BitVec 32 := Scalar.addi v503 v500
  let c0_i32_224 : BitVec 32 := 0#32
  let c0_i32_225 : BitVec 32 := 0#32
  ![v504.toNat, 0, 0]
def k0_off5 (k0_t1 : Fin k0_t1_loop.trips) (k0_t2 : Fin k0_t2_loop.trips) : Fin 1 → Nat :=
  let c0_i32_12 : BitVec 32 := 0#32
  let c1_i32 : BitVec 32 := 1#32
  let arg10 : BitVec 32 := Scf.iv c0_i32_12 c1_i32 k0_t1
  let c8_i32_93 : BitVec 32 := 8#32
  let v222 : BitVec 32 := Scalar.muli arg10 c8_i32_93
  let c0_i32_87 : BitVec 32 := 0#32
  let c1_i32_88 : BitVec 32 := 1#32
  let arg11 : BitVec 32 := Scf.iv c0_i32_87 c1_i32_88 k0_t2
  let v223 : BitVec 32 := Scalar.addi v222 arg11
  let c2_i32 : BitVec 32 := 2#32
  let v224 : BitVec 32 := Scalar.remsi v223 c2_i32
  ![v224.toNat]
def k0_off6 (k0_t1 : Fin k0_t1_loop.trips) (k0_t2 : Fin k0_t2_loop.trips) : Fin 3 → Nat :=
  let c0_i32_12 : BitVec 32 := 0#32
  let c1_i32 : BitVec 32 := 1#32
  let arg10 : BitVec 32 := Scf.iv c0_i32_12 c1_i32 k0_t1
  let c8_i32_93 : BitVec 32 := 8#32
  let v222 : BitVec 32 := Scalar.muli arg10 c8_i32_93
  let c0_i32_87 : BitVec 32 := 0#32
  let c1_i32_88 : BitVec 32 := 1#32
  let arg11 : BitVec 32 := Scf.iv c0_i32_87 c1_i32_88 k0_t2
  let v223 : BitVec 32 := Scalar.addi v222 arg11
  let c2_i32 : BitVec 32 := 2#32
  let v224 : BitVec 32 := Scalar.remsi v223 c2_i32
  let c0_i32_98 : BitVec 32 := 0#32
  let c0_i32_99 : BitVec 32 := 0#32
  ![v224.toNat, 0, 0]
def k0_off7 (i : grid0.Coords) (k0_t1 : Fin k0_t1_loop.trips) (k0_t2 : Fin k0_t2_loop.trips) : Fin 3 → Nat :=
  let arg0 : BitVec 32 := BitVec.ofNat 32 (i 0).val
  let c32_i32_97 : BitVec 32 := 32#32
  let v229 : BitVec 32 := Scalar.muli arg0 c32_i32_97
  let c0_i32_12 : BitVec 32 := 0#32
  let c1_i32 : BitVec 32 := 1#32
  let arg10 : BitVec 32 := Scf.iv c0_i32_12 c1_i32 k0_t1
  let c8_i32_93 : BitVec 32 := 8#32
  let v222 : BitVec 32 := Scalar.muli arg10 c8_i32_93
  let c0_i32_87 : BitVec 32 := 0#32
  let c1_i32_88 : BitVec 32 := 1#32
  let arg11 : BitVec 32 := Scf.iv c0_i32_87 c1_i32_88 k0_t2
  let v223 : BitVec 32 := Scalar.addi v222 arg11
  let v230 : BitVec 32 := Scalar.addi v229 v223
  let c0_i32_100 : BitVec 32 := 0#32
  let c0_i32_101 : BitVec 32 := 0#32
  ![v230.toNat, 0, 0]
def k0_off8 (k0_t1 : Fin k0_t1_loop.trips) (k0_t2 : Fin k0_t2_loop.trips) : Fin 3 → Nat :=
  let c0_i32_12 : BitVec 32 := 0#32
  let c1_i32 : BitVec 32 := 1#32
  let arg10 : BitVec 32 := Scf.iv c0_i32_12 c1_i32 k0_t1
  let c8_i32_93 : BitVec 32 := 8#32
  let v222 : BitVec 32 := Scalar.muli arg10 c8_i32_93
  let c0_i32_87 : BitVec 32 := 0#32
  let c1_i32_88 : BitVec 32 := 1#32
  let arg11 : BitVec 32 := Scf.iv c0_i32_87 c1_i32_88 k0_t2
  let v223 : BitVec 32 := Scalar.addi v222 arg11
  let c2_i32 : BitVec 32 := 2#32
  let v224 : BitVec 32 := Scalar.remsi v223 c2_i32
  let v245 : Index := Scalar.indexCast v224
  let c0_107 : Index := 0#32
  let c0_108 : Index := 0#32
  ![v245.toNat, 0, 0]
def k0_off9 (k0_t2 : Fin k0_t2_loop.trips) : Fin 3 → Nat :=
  let c0_i32_87 : BitVec 32 := 0#32
  let c1_i32_88 : BitVec 32 := 1#32
  let arg11 : BitVec 32 := Scf.iv c0_i32_87 c1_i32_88 k0_t2
  let v313 : Index := Scalar.indexCast arg11
  let c0_138 : Index := 0#32
  let c0_139 : Index := 0#32
  ![v313.toNat, 0, 0]
def k0_off10 (k0_t2 : Fin k0_t2_loop.trips) : Fin 3 → Nat :=
  let c0_i32_87 : BitVec 32 := 0#32
  let c1_i32_88 : BitVec 32 := 1#32
  let arg11 : BitVec 32 := Scf.iv c0_i32_87 c1_i32_88 k0_t2
  let v374 : Index := Scalar.indexCast arg11
  let c0_165 : Index := 0#32
  let c128 : Index := 128#32
  ![v374.toNat, 0, 128]
def k0_off11 (k0_t2 : Fin k0_t2_loop.trips) : Fin 3 → Nat :=
  let c0_i32_87 : BitVec 32 := 0#32
  let c1_i32_88 : BitVec 32 := 1#32
  let arg11 : BitVec 32 := Scf.iv c0_i32_87 c1_i32_88 k0_t2
  let v435 : Index := Scalar.indexCast arg11
  let c0_191 : Index := 0#32
  let c256 : Index := 256#32
  ![v435.toNat, 0, 256]
def k0_off12 (k0_t2 : Fin k0_t2_loop.trips) : Fin 3 → Nat :=
  let c0_i32_87 : BitVec 32 := 0#32
  let c1_i32_88 : BitVec 32 := 1#32
  let arg11 : BitVec 32 := Scf.iv c0_i32_87 c1_i32_88 k0_t2
  let v496 : Index := Scalar.indexCast arg11
  let c0_217 : Index := 0#32
  let c384 : Index := 384#32
  ![v496.toNat, 0, 384]
@[reducible] def k0_t3_loop : Scf.Loop 32 :=
  let c0_i32_90 : BitVec 32 := 0#32
  let c64_i32 : BitVec 32 := 64#32
  let v221 : BitVec 32 := Scalar.addi c0_i32_90 c64_i32
  let c1_i32_91 : BitVec 32 := 1#32
  ⟨c0_i32_90, v221, c1_i32_91⟩
def k0_off13 (k0_t3 : Fin k0_t3_loop.trips) : Fin 3 → Nat :=
  let c0_94 : Index := 0#32
  let c0_i32_90 : BitVec 32 := 0#32
  let c1_i32_91 : BitVec 32 := 1#32
  let arg11 : BitVec 32 := Scf.iv c0_i32_90 c1_i32_91 k0_t3
  let c8_i32_93 : BitVec 32 := 8#32
  let v222 : BitVec 32 := Scalar.muli arg11 c8_i32_93
  let v223 : Index := Scalar.indexCast v222
  let c0_95 : Index := 0#32
  ![0, v223.toNat, 0]
def k0_off14 (k0_t1 : Fin k0_t1_loop.trips) (k0_t3 : Fin k0_t3_loop.trips) : Fin 3 → Nat :=
  let c0_i32_90 : BitVec 32 := 0#32
  let c1_i32_91 : BitVec 32 := 1#32
  let arg11 : BitVec 32 := Scf.iv c0_i32_90 c1_i32_91 k0_t3
  let c8_i32_93 : BitVec 32 := 8#32
  let v222 : BitVec 32 := Scalar.muli arg11 c8_i32_93
  let v227 : Index := Scalar.indexCast v222
  let c0_i32_12 : BitVec 32 := 0#32
  let c1_i32 : BitVec 32 := 1#32
  let arg10 : BitVec 32 := Scf.iv c0_i32_12 c1_i32 k0_t1
  let c8_i32_96 : BitVec 32 := 8#32
  let v226 : BitVec 32 := Scalar.muli arg10 c8_i32_96
  let v228 : Index := Scalar.indexCast v226
  let c0_97 : Index := 0#32
  ![v227.toNat, v228.toNat, 0]
def k0_off15 (k0_t3 : Fin k0_t3_loop.trips) : Fin 3 → Nat :=
  let c0_98 : Index := 0#32
  let c0_i32_90 : BitVec 32 := 0#32
  let c1_i32_91 : BitVec 32 := 1#32
  let arg11 : BitVec 32 := Scf.iv c0_i32_90 c1_i32_91 k0_t3
  let c8_i32_93 : BitVec 32 := 8#32
  let v222 : BitVec 32 := Scalar.muli arg11 c8_i32_93
  let v232 : Index := Scalar.indexCast v222
  let c128 : Index := 128#32
  ![0, v232.toNat, 128]
def k0_off16 (k0_t1 : Fin k0_t1_loop.trips) (k0_t3 : Fin k0_t3_loop.trips) : Fin 3 → Nat :=
  let c0_i32_90 : BitVec 32 := 0#32
  let c1_i32_91 : BitVec 32 := 1#32
  let arg11 : BitVec 32 := Scf.iv c0_i32_90 c1_i32_91 k0_t3
  let c8_i32_93 : BitVec 32 := 8#32
  let v222 : BitVec 32 := Scalar.muli arg11 c8_i32_93
  let v236 : Index := Scalar.indexCast v222
  let c0_i32_12 : BitVec 32 := 0#32
  let c1_i32 : BitVec 32 := 1#32
  let arg10 : BitVec 32 := Scf.iv c0_i32_12 c1_i32 k0_t1
  let c8_i32_99 : BitVec 32 := 8#32
  let v235 : BitVec 32 := Scalar.muli arg10 c8_i32_99
  let v237 : Index := Scalar.indexCast v235
  let c128_100 : Index := 128#32
  ![v236.toNat, v237.toNat, 128]
def k0_off17 (k0_t3 : Fin k0_t3_loop.trips) : Fin 3 → Nat :=
  let c0_101 : Index := 0#32
  let c0_i32_90 : BitVec 32 := 0#32
  let c1_i32_91 : BitVec 32 := 1#32
  let arg11 : BitVec 32 := Scf.iv c0_i32_90 c1_i32_91 k0_t3
  let c8_i32_93 : BitVec 32 := 8#32
  let v222 : BitVec 32 := Scalar.muli arg11 c8_i32_93
  let v241 : Index := Scalar.indexCast v222
  let c256 : Index := 256#32
  ![0, v241.toNat, 256]
def k0_off18 (k0_t1 : Fin k0_t1_loop.trips) (k0_t3 : Fin k0_t3_loop.trips) : Fin 3 → Nat :=
  let c0_i32_90 : BitVec 32 := 0#32
  let c1_i32_91 : BitVec 32 := 1#32
  let arg11 : BitVec 32 := Scf.iv c0_i32_90 c1_i32_91 k0_t3
  let c8_i32_93 : BitVec 32 := 8#32
  let v222 : BitVec 32 := Scalar.muli arg11 c8_i32_93
  let v245 : Index := Scalar.indexCast v222
  let c0_i32_12 : BitVec 32 := 0#32
  let c1_i32 : BitVec 32 := 1#32
  let arg10 : BitVec 32 := Scf.iv c0_i32_12 c1_i32 k0_t1
  let c8_i32_102 : BitVec 32 := 8#32
  let v244 : BitVec 32 := Scalar.muli arg10 c8_i32_102
  let v246 : Index := Scalar.indexCast v244
  let c256_103 : Index := 256#32
  ![v245.toNat, v246.toNat, 256]
def k0_off19 (k0_t3 : Fin k0_t3_loop.trips) : Fin 3 → Nat :=
  let c0_104 : Index := 0#32
  let c0_i32_90 : BitVec 32 := 0#32
  let c1_i32_91 : BitVec 32 := 1#32
  let arg11 : BitVec 32 := Scf.iv c0_i32_90 c1_i32_91 k0_t3
  let c8_i32_93 : BitVec 32 := 8#32
  let v222 : BitVec 32 := Scalar.muli arg11 c8_i32_93
  let v250 : Index := Scalar.indexCast v222
  let c384 : Index := 384#32
  ![0, v250.toNat, 384]
def k0_off20 (k0_t1 : Fin k0_t1_loop.trips) (k0_t3 : Fin k0_t3_loop.trips) : Fin 3 → Nat :=
  let c0_i32_90 : BitVec 32 := 0#32
  let c1_i32_91 : BitVec 32 := 1#32
  let arg11 : BitVec 32 := Scf.iv c0_i32_90 c1_i32_91 k0_t3
  let c8_i32_93 : BitVec 32 := 8#32
  let v222 : BitVec 32 := Scalar.muli arg11 c8_i32_93
  let v254 : Index := Scalar.indexCast v222
  let c0_i32_12 : BitVec 32 := 0#32
  let c1_i32 : BitVec 32 := 1#32
  let arg10 : BitVec 32 := Scf.iv c0_i32_12 c1_i32 k0_t1
  let c8_i32_105 : BitVec 32 := 8#32
  let v253 : BitVec 32 := Scalar.muli arg10 c8_i32_105
  let v255 : Index := Scalar.indexCast v253
  let c384_106 : Index := 384#32
  ![v254.toNat, v255.toNat, 384]
@[reducible] def k0_t4_loop : Scf.Loop 32 :=
  let c0_i32_31 : BitVec 32 := 0#32
  let c255_i32 : BitVec 32 := 255#32
  let v40 : BitVec 32 := Scalar.addi c0_i32_31 c255_i32
  let c1_i32_32 : BitVec 32 := 1#32
  ⟨c0_i32_31, v40, c1_i32_32⟩
def k0_off21 (k0_t4 : Fin k0_t4_loop.trips) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let c511_i32_89 : BitVec 32 := 511#32
  let v222 : BitVec 32 := Scalar.andi v221 c511_i32_89
  let v229 : Index := Scalar.indexCast v222
  let c0_95 : Index := 0#32
  let c0_96 : Index := 0#32
  ![v229.toNat, 0, 0]
def k0_off22 (k0_t4 : Fin k0_t4_loop.trips) (c1_i32_90 : BitVec 32) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let v223 : BitVec 32 := Scalar.addi v221 c1_i32_90
  let c511_i32_91 : BitVec 32 := 511#32
  let v224 : BitVec 32 := Scalar.andi v223 c511_i32_91
  let v232 : Index := Scalar.indexCast v224
  let c0_97 : Index := 0#32
  let c0_98 : Index := 0#32
  ![v232.toNat, 0, 0]
def k0_off23 (k0_t4 : Fin k0_t4_loop.trips) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let c511_i32_89 : BitVec 32 := 511#32
  let v222 : BitVec 32 := Scalar.andi v221 c511_i32_89
  let v285 : Index := Scalar.indexCast v222
  let c8_107 : Index := 8#32
  let c0_108 : Index := 0#32
  ![v285.toNat, 8, 0]
def k0_off24 (k0_t4 : Fin k0_t4_loop.trips) (c1_i32_90 : BitVec 32) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let v223 : BitVec 32 := Scalar.addi v221 c1_i32_90
  let c511_i32_91 : BitVec 32 := 511#32
  let v224 : BitVec 32 := Scalar.andi v223 c511_i32_91
  let v288 : Index := Scalar.indexCast v224
  let c8_109 : Index := 8#32
  let c0_110 : Index := 0#32
  ![v288.toNat, 8, 0]
def k0_off25 (k0_t4 : Fin k0_t4_loop.trips) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let c511_i32_89 : BitVec 32 := 511#32
  let v222 : BitVec 32 := Scalar.andi v221 c511_i32_89
  let v341 : Index := Scalar.indexCast v222
  let c16_119 : Index := 16#32
  let c0_120 : Index := 0#32
  ![v341.toNat, 16, 0]
def k0_off26 (k0_t4 : Fin k0_t4_loop.trips) (c1_i32_90 : BitVec 32) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let v223 : BitVec 32 := Scalar.addi v221 c1_i32_90
  let c511_i32_91 : BitVec 32 := 511#32
  let v224 : BitVec 32 := Scalar.andi v223 c511_i32_91
  let v344 : Index := Scalar.indexCast v224
  let c16_121 : Index := 16#32
  let c0_122 : Index := 0#32
  ![v344.toNat, 16, 0]
def k0_off27 (k0_t4 : Fin k0_t4_loop.trips) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let c511_i32_89 : BitVec 32 := 511#32
  let v222 : BitVec 32 := Scalar.andi v221 c511_i32_89
  let v397 : Index := Scalar.indexCast v222
  let c24_131 : Index := 24#32
  let c0_132 : Index := 0#32
  ![v397.toNat, 24, 0]
def k0_off28 (k0_t4 : Fin k0_t4_loop.trips) (c1_i32_90 : BitVec 32) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let v223 : BitVec 32 := Scalar.addi v221 c1_i32_90
  let c511_i32_91 : BitVec 32 := 511#32
  let v224 : BitVec 32 := Scalar.andi v223 c511_i32_91
  let v400 : Index := Scalar.indexCast v224
  let c24_133 : Index := 24#32
  let c0_134 : Index := 0#32
  ![v400.toNat, 24, 0]
def k0_off29 (k0_t4 : Fin k0_t4_loop.trips) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let c2_i32_139 : BitVec 32 := 2#32
  let v449 : BitVec 32 := Scalar.addi v221 c2_i32_139
  let c1_i32_141 : BitVec 32 := 1#32
  let v451 : BitVec 32 := Scalar.addi v449 c1_i32_141
  let c511_i32_142 : BitVec 32 := 511#32
  let v452 : BitVec 32 := Scalar.andi v451 c511_i32_142
  let v460 : Index := Scalar.indexCast v452
  let c0_149 : Index := 0#32
  let c0_150 : Index := 0#32
  ![v460.toNat, 0, 0]
def k0_off30 (k0_t4 : Fin k0_t4_loop.trips) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let c2_i32_139 : BitVec 32 := 2#32
  let v449 : BitVec 32 := Scalar.addi v221 c2_i32_139
  let c1_i32_141 : BitVec 32 := 1#32
  let v451 : BitVec 32 := Scalar.addi v449 c1_i32_141
  let c511_i32_142 : BitVec 32 := 511#32
  let v452 : BitVec 32 := Scalar.andi v451 c511_i32_142
  let v516 : Index := Scalar.indexCast v452
  let c8_161 : Index := 8#32
  let c0_162 : Index := 0#32
  ![v516.toNat, 8, 0]
def k0_off31 (k0_t4 : Fin k0_t4_loop.trips) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let c2_i32_139 : BitVec 32 := 2#32
  let v449 : BitVec 32 := Scalar.addi v221 c2_i32_139
  let c1_i32_141 : BitVec 32 := 1#32
  let v451 : BitVec 32 := Scalar.addi v449 c1_i32_141
  let c511_i32_142 : BitVec 32 := 511#32
  let v452 : BitVec 32 := Scalar.andi v451 c511_i32_142
  let v572 : Index := Scalar.indexCast v452
  let c16_173 : Index := 16#32
  let c0_174 : Index := 0#32
  ![v572.toNat, 16, 0]
def k0_off32 (k0_t4 : Fin k0_t4_loop.trips) : Fin 3 → Nat :=
  let c4_i32_87 : BitVec 32 := 4#32
  let c0_i32_31 : BitVec 32 := 0#32
  let c1_i32_32 : BitVec 32 := 1#32
  let arg10 : BitVec 32 := Scf.iv c0_i32_31 c1_i32_32 k0_t4
  let v220 : BitVec 32 := Scalar.muli c4_i32_87 arg10
  let c1_i32_88 : BitVec 32 := 1#32
  let v221 : BitVec 32 := Scalar.addi v220 c1_i32_88
  let c2_i32_139 : BitVec 32 := 2#32
  let v449 : BitVec 32 := Scalar.addi v221 c2_i32_139
  let c1_i32_141 : BitVec 32 := 1#32
  let v451 : BitVec 32 := Scalar.addi v449 c1_i32_141
  let c511_i32_142 : BitVec 32 := 511#32
  let v452 : BitVec 32 := Scalar.andi v451 c511_i32_142
  let v628 : Index := Scalar.indexCast v452
  let c24_185 : Index := 24#32
  let c0_186 : Index := 0#32
  ![v628.toNat, 24, 0]
def k0_off33 (c1021_i32 : BitVec 32) : Fin 3 → Nat :=
  let c511_i32 : BitVec 32 := 511#32
  let v42 : BitVec 32 := Scalar.andi c1021_i32 c511_i32
  let v43 : Index := Scalar.indexCast v42
  let c0_34 : Index := 0#32
  let c0_35 : Index := 0#32
  ![v43.toNat, 0, 0]
def k0_off34 (c1021_i32 : BitVec 32) : Fin 3 → Nat :=
  let c511_i32 : BitVec 32 := 511#32
  let v42 : BitVec 32 := Scalar.andi c1021_i32 c511_i32
  let v63 : Index := Scalar.indexCast v42
  let c8_39 : Index := 8#32
  let c0_40 : Index := 0#32
  ![v63.toNat, 8, 0]
def k0_off35 (c1021_i32 : BitVec 32) : Fin 3 → Nat :=
  let c511_i32 : BitVec 32 := 511#32
  let v42 : BitVec 32 := Scalar.andi c1021_i32 c511_i32
  let v83 : Index := Scalar.indexCast v42
  let c16_44 : Index := 16#32
  let c0_45 : Index := 0#32
  ![v83.toNat, 16, 0]
def k0_off36 (c1021_i32 : BitVec 32) : Fin 3 → Nat :=
  let c511_i32 : BitVec 32 := 511#32
  let v42 : BitVec 32 := Scalar.andi c1021_i32 c511_i32
  let v103 : Index := Scalar.indexCast v42
  let c24_49 : Index := 24#32
  let c0_50 : Index := 0#32
  ![v103.toNat, 24, 0]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== KernelIdeal.lean ====
variable {F : FTy → Type} [FloatOps F] [Named F]
def κ : String → Option EReal := fun
  | "big" => some ⊤
  | "ln2" => some ((Real.log 2 : ℝ) : EReal)
  | "log2e" => some (((Real.log 2)⁻¹ : ℝ) : EReal)
  | _ => none
-- ==== ReferenceIdeal.lean ====
abbrev S64x512x64 : Shape := ⟨3, ![64, 512, 64]⟩
abbrev S_ : Shape := ⟨0, ![]⟩
abbrev S64x512 : Shape := ⟨2, ![64, 512]⟩
abbrev S64x512x1 : Shape := ⟨3, ![64, 512, 1]⟩
abbrev S64x1x512 : Shape := ⟨3, ![64, 1, 512]⟩
abbrev S64x512x512 : Shape := ⟨3, ![64, 512, 512]⟩
abbrev S64x513x513 : Shape := ⟨3, ![64, 513, 513]⟩
abbrev S1 : Shape := ⟨1, ![1]⟩
abbrev S2 : Shape := ⟨1, ![2]⟩
abbrev S64 : Shape := ⟨1, ![64]⟩
abbrev S64x1x1 : Shape := ⟨3, ![64, 1, 1]⟩
abbrev S1x64 : Shape := ⟨2, ![1, 64]⟩
abbrev S3x64 : Shape := ⟨2, ![3, 64]⟩

abbrev nBuf : Space → Nat
  | .hbm => 110
  | .vmem => 0
  | .smem => 0
  | _ => 0

abbrev bufTy : (tb : Table) → Fin (tcTables nBuf tb) → BufTy
  | .hbm, ⟨0, _⟩ => ⟨S64x512x64, .f32⟩
  | .hbm, ⟨1, _⟩ => ⟨S64x512x64, .f32⟩
  | .hbm, ⟨2, _⟩ => ⟨S64x512x64, .f32⟩
  | .hbm, ⟨3, _⟩ => ⟨S_, .f32⟩
  | .hbm, ⟨4, _⟩ => ⟨S64x512, .f32⟩
  | .hbm, ⟨5, _⟩ => ⟨S64x512x1, .f32⟩
  | .hbm, ⟨6, _⟩ => ⟨S64x512x64, .f32⟩
  | .hbm, ⟨7, _⟩ => ⟨S_, .f32⟩
  | .hbm, ⟨8, _⟩ => ⟨S64x512, .f32⟩
  | .hbm, ⟨9, _⟩ => ⟨S64x1x512, .f32⟩
  | .hbm, ⟨10, _⟩ => ⟨S64x512x512, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S_, .f32⟩
  | .hbm, ⟨15, _⟩ => ⟨S64x512x512, .f32⟩
  | .hbm, ⟨16, _⟩ => ⟨S64x512x512, .f32⟩
  | .hbm, ⟨17, _⟩ => ⟨S64x512x512, .f32⟩
  | .hbm, ⟨18, _⟩ => ⟨S_, .f32⟩
  | .hbm, ⟨19, _⟩ => ⟨S64x512x512, .f32⟩
  | .hbm, ⟨20, _⟩ => ⟨S64x512x512, .f32⟩
  | .hbm, ⟨21, _⟩ => ⟨S64x512x512, .f32⟩
  | .hbm, ⟨22, _⟩ => ⟨S_, .f32⟩
  | .hbm, ⟨23, _⟩ => ⟨S64x513x513, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S_, .f32⟩
  | .hbm, ⟨30, _⟩ => ⟨S64, .f32⟩
  | .hbm, ⟨31, _⟩ => ⟨S64x513x513, .f32⟩
  | .hbm, ⟨32, _⟩ => ⟨S_, .i32⟩
  | .hbm, ⟨33, _⟩ => ⟨S_, .i32⟩
  | .hbm, ⟨34, _⟩ => ⟨S64x512x512, .f32⟩
  | .hbm, ⟨35, _⟩ => ⟨S_, .i32⟩
  | .hbm, ⟨36, _⟩ => ⟨S_, .i32⟩
  | .hbm, ⟨37, _⟩ => ⟨S64x513x513, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S64x1x1, .f32⟩
  | .hbm, ⟨48, _⟩ => ⟨S64, .f32⟩
  | .hbm, ⟨49, _⟩ => ⟨S_, .i32⟩
  | .hbm, ⟨50, _⟩ => ⟨S64x1x1, .f32⟩
  | .hbm, ⟨51, _⟩ => ⟨S64, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S64x1x1, .f32⟩
  | .hbm, ⟨56, _⟩ => ⟨S64, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S64x1x1, .f32⟩
  | .hbm, ⟨61, _⟩ => ⟨S64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S3x64, .f32⟩
  | .hbm, ⟨66, _⟩ => ⟨S3x64, .f32⟩
  | .hbm, ⟨67, _⟩ => ⟨S_, .f32⟩
  | .hbm, ⟨68, _⟩ => ⟨S3x64, .f32⟩
  | .hbm, ⟨69, _⟩ => ⟨S3x64, .i1⟩
  | .hbm, ⟨70, _⟩ => ⟨S_, .f32⟩
  | .hbm, ⟨71, _⟩ => ⟨S3x64, .f32⟩
  | .hbm, ⟨72, _⟩ => ⟨S3x64, .f32⟩
  | .hbm, ⟨73, _⟩ => ⟨S3x64, .f32⟩
  | .hbm, ⟨74, _⟩ => ⟨S_, .f32⟩
  | .hbm, ⟨75, _⟩ => ⟨S3x64, .f32⟩
  | .hbm, ⟨76, _⟩ => ⟨S3x64, .f32⟩
  | .hbm, ⟨77, _⟩ => ⟨S_, .f32⟩
  | .hbm, ⟨78, _⟩ => ⟨S64, .f32⟩
  | .hbm, ⟨79, _⟩ => ⟨S1x64, .f32⟩
  | .hbm, ⟨80, _⟩ => ⟨S1x64, .f32⟩
  | .hbm, ⟨81, _⟩ => ⟨S_, .f32⟩
  | .hbm, ⟨82, _⟩ => ⟨S1x64, .f32⟩
  | .hbm, ⟨83, _⟩ => ⟨S1x64, .i1⟩
  | .hbm, ⟨84, _⟩ => ⟨S_, .f32⟩
  | .hbm, ⟨85, _⟩ => ⟨S1x64, .f32⟩
  | .hbm, ⟨86, _⟩ => ⟨S1x64, .f32⟩
  | .hbm, ⟨87, _⟩ => ⟨S3x64, .f32⟩
  | .hbm, ⟨88, _⟩ => ⟨S3x64, .f32⟩
  | .hbm, ⟨89, _⟩ => ⟨S3x64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64, .f32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64, .f32⟩
  | .hbm, ⟨99, _⟩ => ⟨S64x1x1, .f32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S64x513x513, .f32⟩
  | .hbm, ⟨106, _⟩ => ⟨S_, .i32⟩
  | .hbm, ⟨107, _⟩ => ⟨S_, .i32⟩
  | .hbm, ⟨108, _⟩ => ⟨S64x1x1, .f32⟩
  | .hbm, ⟨109, _⟩ => ⟨S64, .f32⟩
  | _, _ => ⟨S64x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_c_7 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_while0c_c_11 : Ref sig .tc := ⟨.hbm, 38, rfl⟩
abbrev main_while0c_v25 : Ref sig .tc := ⟨.hbm, 39, rfl⟩
abbrev main_while0b_c_11 : Ref sig .tc := ⟨.hbm, 40, rfl⟩
abbrev main_while0b_v25 : Ref sig .tc := ⟨.hbm, 41, rfl⟩
abbrev main_while0b_c_12 : Ref sig .tc := ⟨.hbm, 42, rfl⟩
abbrev main_while0b_v26 : Ref sig .tc := ⟨.hbm, 43, rfl⟩
abbrev main_while0b_c_13 : Ref sig .tc := ⟨.hbm, 44, rfl⟩
abbrev main_while0b_v27 : Ref sig .tc := ⟨.hbm, 45, rfl⟩
abbrev main_while0b_c_14 : Ref sig .tc := ⟨.hbm, 46, rfl⟩
abbrev main_while0b_v28 : Ref sig .tc := ⟨.hbm, 47, rfl⟩
abbrev main_while0b_v29 : Ref sig .tc := ⟨.hbm, 48, rfl⟩
abbrev main_while0b_c_15 : Ref sig .tc := ⟨.hbm, 49, rfl⟩
abbrev main_while0b_v30 : Ref sig .tc := ⟨.hbm, 50, rfl⟩
abbrev main_while0b_v31 : Ref sig .tc := ⟨.hbm, 51, rfl⟩
abbrev main_while0b_c_16 : Ref sig .tc := ⟨.hbm, 52, rfl⟩
abbrev main_while0b_v32 : Ref sig .tc := ⟨.hbm, 53, rfl⟩
abbrev main_while0b_c_17 : Ref sig .tc := ⟨.hbm, 54, rfl⟩
abbrev main_while0b_v33 : Ref sig .tc := ⟨.hbm, 55, rfl⟩
abbrev main_while0b_v34 : Ref sig .tc := ⟨.hbm, 56, rfl⟩
abbrev main_while0b_c_18 : Ref sig .tc := ⟨.hbm, 57, rfl⟩
abbrev main_while0b_v35 : Ref sig .tc := ⟨.hbm, 58, rfl⟩
abbrev main_while0b_c_19 : Ref sig .tc := ⟨.hbm, 59, rfl⟩
abbrev main_while0b_v36 : Ref sig .tc := ⟨.hbm, 60, rfl⟩
abbrev main_while0b_v37 : Ref sig .tc := ⟨.hbm, 61, rfl⟩
abbrev main_while0b_v38 : Ref sig .tc := ⟨.hbm, 62, rfl⟩
abbrev main_while0b_v39 : Ref sig .tc := ⟨.hbm, 63, rfl⟩
abbrev main_while0b_v40 : Ref sig .tc := ⟨.hbm, 64, rfl⟩
abbrev main_while0b_v41 : Ref sig .tc := ⟨.hbm, 65, rfl⟩
abbrev main_while0b_call0_v0 : Ref sig .tc := ⟨.hbm, 66, rfl⟩
abbrev main_while0b_call0_cst : Ref sig .tc := ⟨.hbm, 67, rfl⟩
abbrev main_while0b_call0_v1 : Ref sig .tc := ⟨.hbm, 68, rfl⟩
abbrev main_while0b_v42 : Ref sig .tc := ⟨.hbm, 69, rfl⟩
abbrev main_while0b_cst_20 : Ref sig .tc := ⟨.hbm, 70, rfl⟩
abbrev main_while0b_call1_v0 : Ref sig .tc := ⟨.hbm, 71, rfl⟩
abbrev main_while0b_v43 : Ref sig .tc := ⟨.hbm, 72, rfl⟩
abbrev main_while0b_v44 : Ref sig .tc := ⟨.hbm, 73, rfl⟩
abbrev main_while0b_cst_21 : Ref sig .tc := ⟨.hbm, 74, rfl⟩
abbrev main_while0b_v45 : Ref sig .tc := ⟨.hbm, 75, rfl⟩
abbrev main_while0b_v46 : Ref sig .tc := ⟨.hbm, 76, rfl⟩
abbrev main_while0b_cst_22 : Ref sig .tc := ⟨.hbm, 77, rfl⟩
abbrev main_while0b_v47 : Ref sig .tc := ⟨.hbm, 78, rfl⟩
abbrev main_while0b_v48 : Ref sig .tc := ⟨.hbm, 79, rfl⟩
abbrev main_while0b_call2_v0 : Ref sig .tc := ⟨.hbm, 80, rfl⟩
abbrev main_while0b_call2_cst : Ref sig .tc := ⟨.hbm, 81, rfl⟩
abbrev main_while0b_call2_v1 : Ref sig .tc := ⟨.hbm, 82, rfl⟩
abbrev main_while0b_v49 : Ref sig .tc := ⟨.hbm, 83, rfl⟩
abbrev main_while0b_cst_23 : Ref sig .tc := ⟨.hbm, 84, rfl⟩
abbrev main_while0b_v50 : Ref sig .tc := ⟨.hbm, 85, rfl⟩
abbrev main_while0b_v51 : Ref sig .tc := ⟨.hbm, 86, rfl⟩
abbrev main_while0b_v52 : Ref sig .tc := ⟨.hbm, 87, rfl⟩
abbrev main_while0b_v53 : Ref sig .tc := ⟨.hbm, 88, rfl⟩
abbrev main_while0b_v54 : Ref sig .tc := ⟨.hbm, 89, rfl⟩
abbrev main_while0b_cst_24 : Ref sig .tc := ⟨.hbm, 90, rfl⟩
abbrev main_while0b_v55 : Ref sig .tc := ⟨.hbm, 91, rfl⟩
abbrev main_while0b_v56 : Ref sig .tc := ⟨.hbm, 92, rfl⟩
abbrev main_while0b_v57 : Ref sig .tc := ⟨.hbm, 93, rfl⟩
abbrev main_while0b_v58 : Ref sig .tc := ⟨.hbm, 94, rfl⟩
abbrev main_while0b_cst_25 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_v62 : Ref sig .tc := ⟨.hbm, 99, rfl⟩
abbrev main_while0b_c_26 : Ref sig .tc := ⟨.hbm, 100, rfl⟩
abbrev main_while0b_v63 : Ref sig .tc := ⟨.hbm, 101, rfl⟩
abbrev main_while0b_c_27 : Ref sig .tc := ⟨.hbm, 102, rfl⟩
abbrev main_while0b_v64 : Ref sig .tc := ⟨.hbm, 103, rfl⟩
abbrev main_while0b_c_28 : Ref sig .tc := ⟨.hbm, 104, rfl⟩
abbrev main_while0b_v65 : Ref sig .tc := ⟨.hbm, 105, rfl⟩
abbrev main_while0b_c_29 : Ref sig .tc := ⟨.hbm, 106, rfl⟩
abbrev main_while0b_v66 : Ref sig .tc := ⟨.hbm, 107, rfl⟩
abbrev main_v23 : Ref sig .tc := ⟨.hbm, 108, rfl⟩
abbrev main_v24 : Ref sig .tc := ⟨.hbm, 109, rfl⟩

abbrev nD : Nat := 1
abbrev τ : Topo := Topo.v7x

variable {F : FTy → Type} [FloatOps F]

abbrev main_while0_count : Scf.Loop 32 := ⟨0#32, 262144#32, 1#32⟩
-- ==== Proof.KernelIdeal.Dma.lean ====
/-
  The kernel's own transfers, named. Block `b` of an argument (`xBlk`, `yBlk`: rows of batch `b`), slot `s` of a double
  buffer (`xSlot`, `ySlot`), slot `s`'s cell (`xCell`, `yCell`); the equations that bring the body's slices to these
  names; the pieces of the resources (a block home, a slot held, a cell at zero, a slot in flight) and what the loop
  over the batches holds before batch `b` (`liveAt`) and after the last (`idleAt`).
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Affine
public import Idealize.ShloMosaic.Lib.Tactic

@[expose] public section

set_option maxRecDepth 16384

noncomputable section

namespace Cert.KernelIdeal.Sdtw

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The algebra of the run: the pipeline library's, beside the counters the kernel's own transfers ride on. -/
abbrev UU (nD : Nat) (τ : Topo) : Type := Pipeline.UD sig nD τ
local notation "𝕄" => MT nD τ sig Unit (Elt F) ℕ (UU nD τ) ℕ
abbrev 𝒱₀ : Variants := Variants.none

omit [FloatOps F] [Named F] in
theorem entails_of_eq {P Q : sProp 𝕄} (e : P = Q) : P ⊢ Q := e ▸ .rfl

/-! ## Names -/

abbrev xM : Memref sig .tc .hbm S64x512x64 .f32 := Memref.whole main_arg0
abbrev yM : Memref sig .tc .hbm S64x512x64 .f32 := Memref.whole main_arg1
/-- The skewed costs, by diagonal, batch and row. -/
abbrev sM : Memref sig .tc .vmem S512x32x512 .f32 := Memref.whole cc0_scratch0
/-- The tiles of one group of eight batches. -/
abbrev tM : Memref sig .tc .vmem S8x512x512 .f32 := Memref.whole cc0_scratch1
abbrev xbM : Memref sig .tc .vmem S2x512x64 .f32 := Memref.whole cc0_scratch2
abbrev ybM : Memref sig .tc .vmem S2x512x64 .f32 := Memref.whole cc0_scratch3

abbrev blkOff (b : Fin 64) : Fin 3 → Nat := ![b.val, 0, 0]
theorem blkOff_inb (b : Fin 64) : ∀ a, blkOff b a + S1x512x64.size a ≤ S64x512x64.size a := by
  have := b.isLt; intro a; fin_cases a
  · show b.val + 1 ≤ 64; omega
  · show 0 + 512 ≤ 512; omega
  · show 0 + 64 ≤ 64; omega
abbrev slotOff (s : Fin 2) : Fin 3 → Nat := ![s.val, 0, 0]
theorem slotOff_inb (s : Fin 2) : ∀ a, slotOff s a + S1x512x64.size a ≤ S2x512x64.size a := by
  have := s.isLt; intro a; fin_cases a
  · show s.val + 1 ≤ 2; omega
  · show 0 + 512 ≤ 512; omega
  · show 0 + 64 ≤ 64; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

def xBlk (b : Fin 64) : Memref sig .tc .hbm S512x64 .f32 :=
  (xM.slice (Rect.unit (s := S64x512x64) (blkOff b) S1x512x64.size (blkOff_inb b)) (fun _ => rfl)).squeeze S512x64 squeezes_S1x512x64_S512x64
def yBlk (b : Fin 64) : Memref sig .tc .hbm S512x64 .f32 :=
  (yM.slice (Rect.unit (s := S64x512x64) (blkOff b) S1x512x64.size (blkOff_inb b)) (fun _ => rfl)).squeeze S512x64 squeezes_S1x512x64_S512x64
def xSlot (s : Fin 2) : Memref sig .tc .vmem S512x64 .f32 :=
  (xbM.slice (Rect.unit (s := S2x512x64) (slotOff s) S1x512x64.size (slotOff_inb s)) (fun _ => rfl)).squeeze S512x64 squeezes_S1x512x64_S512x64
def ySlot (s : Fin 2) : Memref sig .tc .vmem S512x64 .f32 :=
  (ybM.slice (Rect.unit (s := S2x512x64) (slotOff s) S1x512x64.size (slotOff_inb s)) (fun _ => rfl)).squeeze S512x64 squeezes_S1x512x64_S512x64
def xCell (s : Fin 2) : DmaSems sig S_ := (cc0_scratch4.slice (Rect.unit (s := S2) (semOff s) S1.size (semOff_inb s))).squeeze S_ squeezes_S1_S_
def yCell (s : Fin 2) : DmaSems sig S_ := (cc0_scratch5.slice (Rect.unit (s := S2) (semOff s) S1.size (semOff_inb s))).squeeze S_ squeezes_S1_S_

instance (s : Fin 2) : ClosedOff (slotOff s) := ⟨slotOff s, rfl⟩
instance (b : Fin 64) : ClosedOff (blkOff b) := ⟨blkOff b, rfl⟩

/-! ## The body's slices under these names -/

section Canon

private theorem xCell_congr {off : Fin 1 → Nat} {s : Fin 2} (e : off = semOff s) (hh) :
    (cc0_scratch4.slice (Rect.unit (s := S2) off S1.size hh)).squeeze S_ squeezes_S1_S_ = xCell s :=
  congrArg (fun A : DmaSems sig S1 => A.squeeze S_ squeezes_S1_S_) (SemArray.slice_unit_congr _ e _ _)
private theorem yCell_congr {off : Fin 1 → Nat} {s : Fin 2} (e : off = semOff s) (hh) :
    (cc0_scratch5.slice (Rect.unit (s := S2) off S1.size hh)).squeeze S_ squeezes_S1_S_ = yCell s :=
  congrArg (fun A : DmaSems sig S1 => A.squeeze S_ squeezes_S1_S_) (SemArray.slice_unit_congr _ e _ _)
private theorem xSlot_congr {off : Fin 3 → Nat} {s : Fin 2} (e : off = slotOff s) (hh hs) :
    (xbM.slice (Rect.unit (s := S2x512x64) off S1x512x64.size hh) hs).squeeze S512x64 squeezes_S1x512x64_S512x64 = xSlot s :=
  congrArg (fun M : Memref sig .tc .vmem S1x512x64 .f32 => M.squeeze S512x64 squeezes_S1x512x64_S512x64) (Memref.slice_unit_congr _ e _ _ _ _)
private theorem ySlot_congr {off : Fin 3 → Nat} {s : Fin 2} (e : off = slotOff s) (hh hs) :
    (ybM.slice (Rect.unit (s := S2x512x64) off S1x512x64.size hh) hs).squeeze S512x64 squeezes_S1x512x64_S512x64 = ySlot s :=
  congrArg (fun M : Memref sig .tc .vmem S1x512x64 .f32 => M.squeeze S512x64 squeezes_S1x512x64_S512x64) (Memref.slice_unit_congr _ e _ _ _ _)
private theorem xBlk_congr {off : Fin 3 → Nat} {b : Fin 64} (e : off = blkOff b) (hh hs) :
    (xM.slice (Rect.unit (s := S64x512x64) off S1x512x64.size hh) hs).squeeze S512x64 squeezes_S1x512x64_S512x64 = xBlk b :=
  congrArg (fun M : Memref sig .tc .hbm S1x512x64 .f32 => M.squeeze S512x64 squeezes_S1x512x64_S512x64) (Memref.slice_unit_congr _ e _ _ _ _)
private theorem yBlk_congr {off : Fin 3 → Nat} {b : Fin 64} (e : off = blkOff b) (hh hs) :
    (yM.slice (Rect.unit (s := S64x512x64) off S1x512x64.size hh) hs).squeeze S512x64 squeezes_S1x512x64_S512x64 = yBlk b :=
  congrArg (fun M : Memref sig .tc .hbm S1x512x64 .f32 => M.squeeze S512x64 squeezes_S1x512x64_S512x64) (Memref.slice_unit_congr _ e _ _ _ _)

theorem c0_lt (i : grid0.Coords) : (i 0).val < 2 := (i 0).isLt
theorem t1_lt (k : Fin k0_t1_loop.trips) : k.val < 4 := Nat.lt_of_lt_of_le k.isLt k0_t1_abs.2.1
theorem t2_lt (k : Fin k0_t2_loop.trips) : k.val < 8 := Nat.lt_of_lt_of_le k.isLt k0_t2_abs.2.1
theorem t3_lt (k : Fin k0_t3_loop.trips) : k.val < 64 := Nat.lt_of_lt_of_le k.isLt k0_t3_abs.2.1
theorem t4_lt (k : Fin k0_t4_loop.trips) : k.val < 255 := Nat.lt_of_lt_of_le k.isLt k0_t4_abs.2.1

theorem bk_off {n : ℕ} (h : n < 64) : (![n, 0, 0] : Fin 3 → ℕ) = blkOff (Ring.bk 64 n) := by unfold blkOff; rw [Ring.bk_val h]
theorem sl_off (n : ℕ) : (![n % 2, 0, 0] : Fin 3 → ℕ) = slotOff (Ring.sl 2 n) := rfl
theorem sm_off (n : ℕ) : (![n % 2] : Fin 1 → ℕ) = semOff (Ring.sl 2 n) := rfl

@[sl_canon] theorem xCell0 (hh) : (cc0_scratch4.slice (Rect.unit (s := S2) ![0] S1.size hh)).squeeze S_ squeezes_S1_S_ = xCell 0 := xCell_congr (by decide) _
@[sl_canon] theorem yCell0 (hh) : (cc0_scratch5.slice (Rect.unit (s := S2) ![0] S1.size hh)).squeeze S_ squeezes_S1_S_ = yCell 0 := yCell_congr (by decide) _
@[sl_canon] theorem xSlot0 (hh hs) : (xbM.slice (Rect.unit (s := S2x512x64) ![0, 0, 0] S1x512x64.size hh) hs).squeeze S512x64 squeezes_S1x512x64_S512x64 = xSlot 0 := xSlot_congr (by decide) _ _
@[sl_canon] theorem ySlot0 (hh hs) : (ybM.slice (Rect.unit (s := S2x512x64) ![0, 0, 0] S1x512x64.size hh) hs).squeeze S512x64 squeezes_S1x512x64_S512x64 = ySlot 0 := ySlot_congr (by decide) _ _
@[sl_canon] theorem xBlk0 (i : grid0.Coords) (hh hs) : (xM.slice (Rect.unit (s := S64x512x64) (k0_off1 i) S1x512x64.size hh) hs).squeeze S512x64 squeezes_S1x512x64_S512x64 = xBlk (Ring.bk 64 (32 * (i 0).val)) :=
  xBlk_congr ((k0_off1_eq i).trans (bk_off (by have := c0_lt i; omega))) _ _
@[sl_canon] theorem yBlk0 (i : grid0.Coords) (hh hs) : (yM.slice (Rect.unit (s := S64x512x64) (k0_off1 i) S1x512x64.size hh) hs).squeeze S512x64 squeezes_S1x512x64_S512x64 = yBlk (Ring.bk 64 (32 * (i 0).val)) :=
  yBlk_congr ((k0_off1_eq i).trans (bk_off (by have := c0_lt i; omega))) _ _

variable (i : grid0.Coords) (k1 : Fin k0_t1_loop.trips) (k2 : Fin k0_t2_loop.trips)

@[sl_canon] theorem xCellN (hh) : (cc0_scratch4.slice (Rect.unit (s := S2) (k0_off2 k1 k2) S1.size hh)).squeeze S_ squeezes_S1_S_ = xCell (Ring.sl 2 (8 * k1.val + k2.val + 1)) :=
  xCell_congr ((k0_off2_eq k1 k2).trans (sm_off _)) _
@[sl_canon] theorem yCellN (hh) : (cc0_scratch5.slice (Rect.unit (s := S2) (k0_off2 k1 k2) S1.size hh)).squeeze S_ squeezes_S1_S_ = yCell (Ring.sl 2 (8 * k1.val + k2.val + 1)) :=
  yCell_congr ((k0_off2_eq k1 k2).trans (sm_off _)) _
@[sl_canon] theorem xSlotN (hh hs) : (xbM.slice (Rect.unit (s := S2x512x64) (k0_off3 k1 k2) S1x512x64.size hh) hs).squeeze S512x64 squeezes_S1x512x64_S512x64 = xSlot (Ring.sl 2 (8 * k1.val + k2.val + 1)) :=
  xSlot_congr ((k0_off3_eq k1 k2).trans (sl_off _)) _ _
@[sl_canon] theorem ySlotN (hh hs) : (ybM.slice (Rect.unit (s := S2x512x64) (k0_off3 k1 k2) S1x512x64.size hh) hs).squeeze S512x64 squeezes_S1x512x64_S512x64 = ySlot (Ring.sl 2 (8 * k1.val + k2.val + 1)) :=
  ySlot_congr ((k0_off3_eq k1 k2).trans (sl_off _)) _ _
@[sl_canon] theorem xBlkN (hb : 8 * k1.val + k2.val + 1 < 32) (hh hs) : (xM.slice (Rect.unit (s := S64x512x64) (k0_off4 i k1 k2) S1x512x64.size hh) hs).squeeze S512x64 squeezes_S1x512x64_S512x64
    = xBlk (Ring.bk 64 (32 * (i 0).val + (8 * k1.val + k2.val + 1))) :=
  xBlk_congr ((k0_off4_eq i k1 k2).trans (by rw [← bk_off (by have := c0_lt i; omega)]; congr 1; omega)) _ _
@[sl_canon] theorem yBlkN (hb : 8 * k1.val + k2.val + 1 < 32) (hh hs) : (yM.slice (Rect.unit (s := S64x512x64) (k0_off4 i k1 k2) S1x512x64.size hh) hs).squeeze S512x64 squeezes_S1x512x64_S512x64
    = yBlk (Ring.bk 64 (32 * (i 0).val + (8 * k1.val + k2.val + 1))) :=
  yBlk_congr ((k0_off4_eq i k1 k2).trans (by rw [← bk_off (by have := c0_lt i; omega)]; congr 1; omega)) _ _

@[sl_canon] theorem xCellK (hh) : (cc0_scratch4.slice (Rect.unit (s := S2) (k0_off5 k1 k2) S1.size hh)).squeeze S_ squeezes_S1_S_ = xCell (Ring.sl 2 (8 * k1.val + k2.val)) :=
  xCell_congr ((k0_off5_eq k1 k2).trans (sm_off _)) _
@[sl_canon] theorem yCellK (hh) : (cc0_scratch5.slice (Rect.unit (s := S2) (k0_off5 k1 k2) S1.size hh)).squeeze S_ squeezes_S1_S_ = yCell (Ring.sl 2 (8 * k1.val + k2.val)) :=
  yCell_congr ((k0_off5_eq k1 k2).trans (sm_off _)) _
@[sl_canon] theorem xSlotK (hh hs) : (xbM.slice (Rect.unit (s := S2x512x64) (k0_off6 k1 k2) S1x512x64.size hh) hs).squeeze S512x64 squeezes_S1x512x64_S512x64 = xSlot (Ring.sl 2 (8 * k1.val + k2.val)) :=
  xSlot_congr ((k0_off6_eq k1 k2).trans (sl_off _)) _ _
@[sl_canon] theorem ySlotK (hh hs) : (ybM.slice (Rect.unit (s := S2x512x64) (k0_off6 k1 k2) S1x512x64.size hh) hs).squeeze S512x64 squeezes_S1x512x64_S512x64 = ySlot (Ring.sl 2 (8 * k1.val + k2.val)) :=
  ySlot_congr ((k0_off6_eq k1 k2).trans (sl_off _)) _ _
/-- The load of the waited slot through the whole buffer lies in the slot. -/
instance (priority := 2000) : ClosedOff (k0_off8 k1 k2) := ⟨slotOff (Ring.sl 2 (8 * k1.val + k2.val)), (k0_off8_eq k1 k2).trans (sl_off _)⟩
theorem b_lt : 8 * k1.val + k2.val < 32 := by have := t1_lt k1; have := t2_lt k2; omega
@[sl_canon] theorem xBlkK (hh hs) : (xM.slice (Rect.unit (s := S64x512x64) (k0_off7 i k1 k2) S1x512x64.size hh) hs).squeeze S512x64 squeezes_S1x512x64_S512x64
    = xBlk (Ring.bk 64 (32 * (i 0).val + (8 * k1.val + k2.val))) :=
  xBlk_congr ((k0_off7_eq i k1 k2).trans (by rw [← bk_off (by have := c0_lt i; have := b_lt k1 k2; omega)]; congr 1; omega)) _ _
@[sl_canon] theorem yBlkK (hh hs) : (yM.slice (Rect.unit (s := S64x512x64) (k0_off7 i k1 k2) S1x512x64.size hh) hs).squeeze S512x64 squeezes_S1x512x64_S512x64
    = yBlk (Ring.bk 64 (32 * (i 0).val + (8 * k1.val + k2.val))) :=
  yBlk_congr ((k0_off7_eq i k1 k2).trans (by rw [← bk_off (by have := c0_lt i; have := b_lt k1 k2; omega)]; congr 1; omega)) _ _

/-- The trip issues the next batch's transfers exactly when there is a next batch. -/
theorem cond1_iff : ∀ (k1 : Fin k0_t1_loop.trips) (k2 : Fin k0_t2_loop.trips), k0_cond1 k1 k2 = 1#1 ↔ 8 * k1.val + k2.val + 1 < 32 := by decide +kernel

end Canon

/-! ## The pieces -/

section Pieces
variable (c : Dev nD) (XA : Buf (Elt F) (xM.view.loc (c : Thread nD τ))) (YA : Buf (Elt F) (yM.view.loc (c : Thread nD τ)))

abbrev xCellP (s : Fin 2) : sProp 𝕄 := semVal ((c : Thread nD τ), SemLoc.dma (xCell s).sem) 0
abbrev yCellP (s : Fin 2) : sProp 𝕄 := semVal ((c : Thread nD τ), SemLoc.dma (yCell s).sem) 0
abbrev xSlotP (s : Fin 2) (f : Buf (Elt F) ((xSlot s).view.loc (c : Thread nD τ))) : sProp 𝕄 :=
  (xSlot s).view.loc (c : Thread nD τ) ↦[(xSlot s).view.set]{fullShare} f
abbrev ySlotP (s : Fin 2) (f : Buf (Elt F) ((ySlot s).view.loc (c : Thread nD τ))) : sProp 𝕄 :=
  (ySlot s).view.loc (c : Thread nD τ) ↦[(ySlot s).view.set]{fullShare} f
abbrev xHomeP (b : Fin 64) : sProp 𝕄 := (xBlk b).view.loc (c : Thread nD τ) ↦[(xBlk b).view.set]{fullShare} XA
abbrev yHomeP (b : Fin 64) : sProp 𝕄 := (yBlk b).view.loc (c : Thread nD τ) ↦[(yBlk b).view.set]{fullShare} YA
/-- Block `b`'s rows as a transfer carries them. -/
abbrev xPay (b : Fin 64) : S512x64.Idx → Elt F .f32 := ReadAs.same.apply ((xBlk b).view.read (Elt F) XA)
abbrev yPay (b : Fin 64) : S512x64.Idx → Elt F .f32 := ReadAs.same.apply ((yBlk b).view.read (Elt F) YA)
abbrev xLanded (s : Fin 2) (b : Fin 64) (f : Buf (Elt F) ((xSlot s).view.loc (c : Thread nD τ))) : Buf (Elt F) ((xSlot s).view.loc (c : Thread nD τ)) :=
  (xSlot s).view.writes (Elt F) f [⟨Rect.whole S512x64, xPay c XA b⟩]
abbrev yLanded (s : Fin 2) (b : Fin 64) (f : Buf (Elt F) ((ySlot s).view.loc (c : Thread nD τ))) : Buf (Elt F) ((ySlot s).view.loc (c : Thread nD τ)) :=
  (ySlot s).view.writes (Elt F) f [⟨Rect.whole S512x64, yPay c YA b⟩]
/-- What a transfer of one block pays its cell. -/
abbrev NN : ℕ := 8192
/-- Slot `s` in flight with block `b`, issued over `f`. -/
abbrev xFlightP (s : Fin 2) (b : Fin 64) (f : Buf (Elt F) ((xSlot s).view.loc (c : Thread nD τ))) : sProp 𝕄 :=
  Transfers.Flight countersEmb (c : Thread nD τ) (SemLoc.dma (xCell s).sem) () NN iprop(xSlotP c s (xLanded c XA s b f) ∗ xHomeP c XA b)
abbrev yFlightP (s : Fin 2) (b : Fin 64) (f : Buf (Elt F) ((ySlot s).view.loc (c : Thread nD τ))) : sProp 𝕄 :=
  Transfers.Flight countersEmb (c : Thread nD τ) (SemLoc.dma (yCell s).sem) () NN iprop(ySlotP c s (yLanded c YA s b f) ∗ yHomeP c YA b)

/-! ## What the loop over the batches holds -/

/-- Before batch `b` of point `p` (`p < 2`, `b < 32`): block `32 p + b` of each argument in flight into slot `b % 2`,
    the other blocks home, the other slot and its cell free. -/
def liveAt (p b : ℕ) : sProp 𝕄 :=
  iprop(bigSep (Finset.univ.erase (Ring.bk 64 (32 * p + b))) (xHomeP c XA) ∗ bigSep (Finset.univ.erase (Ring.bk 64 (32 * p + b))) (yHomeP c YA)
    ∗ (∃ f, xFlightP c XA (Ring.sl 2 b) (Ring.bk 64 (32 * p + b)) f) ∗ (∃ f, yFlightP c YA (Ring.sl 2 b) (Ring.bk 64 (32 * p + b)) f)
    ∗ (∃ f, xSlotP c (Ring.sl 2 (b + 1)) f) ∗ (∃ f, ySlotP c (Ring.sl 2 (b + 1)) f) ∗ xCellP c (Ring.sl 2 (b + 1)) ∗ yCellP c (Ring.sl 2 (b + 1))
    ∗ ∃ W, owes (c : Thread nD τ) 0 W)

/-- After the last batch: every block home, both slots and cells free (named from batch `b` on). -/
def idleAt (b : ℕ) : sProp 𝕄 :=
  iprop(bigSep Finset.univ (xHomeP c XA) ∗ bigSep Finset.univ (yHomeP c YA)
    ∗ (∃ f, xSlotP c (Ring.sl 2 b) f) ∗ (∃ f, ySlotP c (Ring.sl 2 b) f) ∗ xCellP c (Ring.sl 2 b) ∗ yCellP c (Ring.sl 2 b)
    ∗ (∃ f, xSlotP c (Ring.sl 2 (b + 1)) f) ∗ (∃ f, ySlotP c (Ring.sl 2 (b + 1)) f) ∗ xCellP c (Ring.sl 2 (b + 1)) ∗ yCellP c (Ring.sl 2 (b + 1))
    ∗ ∃ W, owes (c : Thread nD τ) 0 W)

theorem bk_ne {m n : ℕ} (hm : m < 64) (hn : n < 64) (h : m ≠ n) : Ring.bk 64 m ≠ Ring.bk 64 n := by
  intro e; apply h; have := congrArg Fin.val e; rwa [Ring.bk_val hm, Ring.bk_val hn] at this

theorem erase_split (P : Fin 64 → sProp 𝕄) {a b : Fin 64} (h : a ≠ b) :
    bigSep (Finset.univ.erase a) P = iprop(P b ∗ bigSep ((Finset.univ.erase a).erase b) P) := by
  conv_lhs => rw [← Finset.insert_erase (show b ∈ Finset.univ.erase a from Finset.mem_erase.mpr ⟨h.symm, Finset.mem_univ _⟩), bigSep_insert (Finset.notMem_erase _ _)]
  rfl

theorem univ_split (P : Fin 64 → sProp 𝕄) (a : Fin 64) :
    bigSep Finset.univ P = iprop(P a ∗ bigSep (Finset.univ.erase a) P) := by
  conv_lhs => rw [← Finset.insert_erase (Finset.mem_univ a), bigSep_insert (Finset.notMem_erase _ _)]
  rfl

end Pieces

end Cert.KernelIdeal.Sdtw

end
-- ==== Proof.KernelIdeal.Trip.lean ====
/-
  One trip of the loop over the batches of a group (`k0_t2`): with a next batch (`tripNext`) and without (`tripLast`).
-/
module

public import proofs.«01_k».proof.Proof.KernelIdeal.Dma

@[expose] public section

set_option maxRecDepth 16384

noncomputable section

namespace Cert.KernelIdeal.Sdtw

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Trip
variable (c : Dev nD) (XA : Buf (Elt F) (xM.view.loc (c : Thread nD τ))) (YA : Buf (Elt F) (yM.view.loc (c : Thread nD τ)))
  (i : grid0.Coords) (arg3 : Memref sig .tc .vmem S32x1 .f32) (harg3 : arg3.IsWhole)
  (a0 : BitVec 32) (v1 : IVec S512x128 32) (k1 : Fin k0_t1_loop.trips) (a10 : BitVec 32)

/-- The region of one batch. -/
abbrev tripG (k2 : Fin k0_t2_loop.trips) : Prog (TpuEff nD τ sig (Elt F) Λ₀ .tc) Unit :=
  k0_t2_body (F := F) i xM (Memref.isWhole_whole _) yM (Memref.isWhole_whole _) arg3 harg3 sM (Memref.isWhole_whole _) tM (Memref.isWhole_whole _)
    xbM (Memref.isWhole_whole _) ybM (Memref.isWhole_whole _) cc0_scratch4 cc0_scratch5 a0 v1 k1 a10 k2 ()

abbrev tP (f : Buf (Elt F) (tM.view.loc (c : Thread nD τ))) : sProp 𝕄 := tM.view.loc (c : Thread nD τ) ↦[tM.view.set]{fullShare} f

/-! ## What a trip stores -/

/-- The four pieces of one batch's tile: 512 rows by 128 lanes each, from the batch's blocks of both arguments. -/
def tile0 (v1 : IVec S512x128 32) (xv yv : Vec F S1x512x64 .f32) : FVec F S1x512x128 .f32 :=
  k0_pay12 v1 (k0_pay9 v1 (k0_pay5 yv) (k0_pay6 k0_pay103 xv) (k0_pay7 yv) (k0_pay8 xv)) (k0_pay10 v1 (k0_pay5 yv) (k0_pay6 k0_pay103 xv) (k0_pay7 yv) (k0_pay8 xv)) (k0_pay11 v1)
def tile1 (v1 : IVec S512x128 32) (xv yv : Vec F S1x512x64 .f32) : FVec F S1x512x128 .f32 :=
  k0_pay15 v1 (k0_pay13 v1 (k0_pay4 xv) (k0_pay5 yv) (k0_pay6 k0_pay103 xv) (k0_pay7 yv)) (k0_pay14 v1 (k0_pay4 xv) (k0_pay5 yv) (k0_pay6 k0_pay103 xv) (k0_pay7 yv))
def tile2 (v1 : IVec S512x128 32) (xv yv : Vec F S1x512x64 .f32) : FVec F S1x512x128 .f32 :=
  k0_pay20 v1 (k0_pay17 v1 (k0_pay5 yv) (k0_pay6 k0_pay103 xv) (k0_pay7 yv) (k0_pay16 (k0_pay4 xv))) (k0_pay18 v1 (k0_pay5 yv) (k0_pay6 k0_pay103 xv) (k0_pay7 yv) (k0_pay16 (k0_pay4 xv))) (k0_pay19 v1)
def tile3 (v1 : IVec S512x128 32) (xv yv : Vec F S1x512x64 .f32) : FVec F S1x512x128 .f32 :=
  k0_pay104 (k0_pay23 v1 (k0_pay21 v1 (k0_pay4 xv) (k0_pay5 yv) (k0_pay6 k0_pay103 xv) (k0_pay7 yv)) (k0_pay22 v1 (k0_pay4 xv) (k0_pay5 yv) (k0_pay6 k0_pay103 xv) (k0_pay7 yv)))

/-- The batch's block of each argument as the trip loads it from the slot the transfer filled. -/
def xLoad (k2 : Fin k0_t2_loop.trips) : Vec F S1x512x64 .f32 :=
  xbM.view.readAt (Elt F) (Rect.unit (s := S2x512x64) (k0_off8 k1 k2) S1x512x64.size (k0_off8_inb k1 k2)).toLoadRect
    (xLanded c XA (Ring.sl 2 (8 * k1.val + k2.val)) (Ring.bk 64 (32 * (i 0).val + (8 * k1.val + k2.val))) (xSlot (Ring.sl 2 (8 * k1.val + k2.val))).view.junk)
def yLoad (k2 : Fin k0_t2_loop.trips) : Vec F S1x512x64 .f32 :=
  ybM.view.readAt (Elt F) (Rect.unit (s := S2x512x64) (k0_off8 k1 k2) S1x512x64.size (k0_off8_inb k1 k2)).toLoadRect
    (yLanded c YA (Ring.sl 2 (8 * k1.val + k2.val)) (Ring.bk 64 (32 * (i 0).val + (8 * k1.val + k2.val))) (ySlot (Ring.sl 2 (8 * k1.val + k2.val))).view.junk)

/-- The pieces a trip stores, the last first. -/
abbrev tilePieces (k2 : Fin k0_t2_loop.trips) (xv yv : Vec F S1x512x64 .f32) : List (View.Piece (Elt F) S8x512x512 .f32) :=
  [⟨Rect.unit (s := S8x512x512) (k0_off12 k2) S1x512x128.size (k0_off12_inb k2), tile3 v1 xv yv⟩,
   ⟨Rect.unit (s := S8x512x512) (k0_off11 k2) S1x512x128.size (k0_off11_inb k2), tile2 v1 xv yv⟩,
   ⟨Rect.unit (s := S8x512x512) (k0_off10 k2) S1x512x128.size (k0_off10_inb k2), tile1 v1 xv yv⟩,
   ⟨Rect.unit (s := S8x512x512) (k0_off9 k2) S1x512x128.size (k0_off9_inb k2), tile0 v1 xv yv⟩]

/-- A trip with a next batch: its transfers are issued, the batch's own waited for, the tile stored. -/
theorem tripNext (k2 : Fin k0_t2_loop.trips) (hb : 8 * k1.val + k2.val + 1 < 32) :
    ∀ f, iprop(tP c f ∗ liveAt c XA YA (i 0).val (8 * k1.val + k2.val))
        ⊢ wp frame (wpE (defs₀ (F := F)) 𝒱₀ (c : Thread nD τ) none) Set.univ (tripG i arg3 harg3 a0 v1 k1 a10 k2)
          (fun _ => iprop(tP c (tM.view.writes (Elt F) f (tilePieces v1 k2 (xLoad c XA i k1 k2) (yLoad c YA i k1 k2))) ∗ liveAt c XA YA (i 0).val (8 * k1.val + k2.val + 1))) := by
    intro f
    have hc : k0_cond1 k1 k2 = 1#1 := (cond1_iff k1 k2).mpr hb
    have hi := c0_lt i
    unfold liveAt
    rw [erase_split (xHomeP c XA) (bk_ne (m := 32 * (i 0).val + (8 * k1.val + k2.val)) (n := 32 * (i 0).val + (8 * k1.val + k2.val + 1)) (by omega) (by omega) (by omega)),
      erase_split (yHomeP c YA) (bk_ne (m := 32 * (i 0).val + (8 * k1.val + k2.val)) (n := 32 * (i 0).val + (8 * k1.val + k2.val + 1)) (by omega) (by omega) (by omega)),
      erase_split (xHomeP c XA) (bk_ne (m := 32 * (i 0).val + (8 * k1.val + k2.val + 1)) (n := 32 * (i 0).val + (8 * k1.val + k2.val)) (by omega) (by omega) (by omega)),
      erase_split (yHomeP c YA) (bk_ne (m := 32 * (i 0).val + (8 * k1.val + k2.val + 1)) (n := 32 * (i 0).val + (8 * k1.val + k2.val)) (by omega) (by omega) (by omega)),
      Finset.erase_right_comm (a := Ring.bk 64 (32 * (i 0).val + (8 * k1.val + k2.val + 1))),
      show Ring.sl 2 (8 * k1.val + k2.val + 1 + 1) = Ring.sl 2 (8 * k1.val + k2.val) from Ring.sl_add ..]
    iintro ⟨HT, ⟨HxN, Hxr⟩, ⟨HyN, Hyr⟩, ⟨%fx, HFx⟩, ⟨%fy, HFy⟩, ⟨%gx, HSx⟩, ⟨%gy, HSy⟩, HCx, HCy, ⟨%W, HW⟩⟩
    dsimp only [tripG]
    sl_unfold [k0_t2_body]
    sl_exec
    sl_step
    isplitl [HT]
    · iexact HT
    isplitl [HFx_src Hxr]
    · isplitl [HFx_src]; · iexact HFx_src
      iexact Hxr
    isplitl [HFy_src Hyr]
    · isplitl [HFy_src]; · iexact HFy_src
      iexact Hyr
    isplitl [HCx]; · iexists gx; iexact HCx
    isplitl [HCy]; · iexists gy; iexact HCy
    isplitl [HFx_dst]; · iexists _; iexact HFx_dst
    isplitl [HFy_dst]; · iexists _; iexact HFy_dst
    isplitl [HFx]; · iexact HFx
    isplitl [HFy]; · iexact HFy
    iexists _; iexact HW

/-- The last trip issues nothing: it waits for its own transfers and stores the tile. -/
theorem tripLast (k2 : Fin k0_t2_loop.trips) (hb : ¬ 8 * k1.val + k2.val + 1 < 32) :
    ∀ f, iprop(tP c f ∗ liveAt c XA YA (i 0).val (8 * k1.val + k2.val))
        ⊢ wp frame (wpE (defs₀ (F := F)) 𝒱₀ (c : Thread nD τ) none) Set.univ (tripG i arg3 harg3 a0 v1 k1 a10 k2)
          (fun _ => iprop(tP c (tM.view.writes (Elt F) f (tilePieces v1 k2 (xLoad c XA i k1 k2) (yLoad c YA i k1 k2))) ∗ idleAt c XA YA (8 * k1.val + k2.val + 1))) := by
    intro f
    have hc : ¬ k0_cond1 k1 k2 = 1#1 := fun h => hb ((cond1_iff k1 k2).mp h)
    have hi := c0_lt i
    unfold liveAt idleAt
    rw [univ_split (xHomeP c XA) (Ring.bk 64 (32 * (i 0).val + (8 * k1.val + k2.val))),
      univ_split (yHomeP c YA) (Ring.bk 64 (32 * (i 0).val + (8 * k1.val + k2.val))),
      show Ring.sl 2 (8 * k1.val + k2.val + 1 + 1) = Ring.sl 2 (8 * k1.val + k2.val) from Ring.sl_add ..]
    iintro ⟨HT, Hxr, Hyr, ⟨%fx, HFx⟩, ⟨%fy, HFy⟩, ⟨%gx, HSx⟩, ⟨%gy, HSy⟩, HCx, HCy, ⟨%W, HW⟩⟩
    dsimp only [tripG]
    sl_unfold [k0_t2_body]
    sl_exec
    sl_step
    isplitl [HT]
    · iexact HT
    isplitl [HFx_src Hxr]
    · isplitl [HFx_src]; · iexact HFx_src
      iexact Hxr
    isplitl [HFy_src Hyr]
    · isplitl [HFy_src]; · iexact HFy_src
      iexact Hyr
    isplitl [HSx]; · iexists gx; iexact HSx
    isplitl [HSy]; · iexists gy; iexact HSy
    isplitl [HCx]; · iexact HCx
    isplitl [HCy]; · iexact HCy
    isplitl [HFx_dst]; · iexists _; iexact HFx_dst
    isplitl [HFy_dst]; · iexists _; iexact HFy_dst
    isplitl [HFx]; · iexact HFx
    isplitl [HFy]; · iexact HFy
    iexists _; iexact HW

end Trip
end Cert.KernelIdeal.Sdtw
end
-- ==== Proof.KernelIdeal.Contents.lean ====
/-
  What the two scratch arrays of the first phase hold, as functions: `tileFn` (one group's tile buffer, every batch's
  512 by 512 tile) and `skewFn` (the skewed distances of all 32 batches); and that the pieces the loops store give
  these.
-/
module

public import proofs.«01_k».proof.Proof.KernelIdeal.Trip
public import Idealize.ShloMosaic.Lib.Pipeline.Value
public import Idealize.ShloMosaic.Lib.VecWindow
public import Idealize.ShloMosaic.Lib.WritesUnit
public import Idealize.ShloMosaic.Lib.ValueIdxCore

@[expose] public section

set_option maxRecDepth 16384

noncomputable section

namespace Cert.KernelIdeal.Sdtw

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

open Idealize.ShloMosaic.ValueIdx

theorem t1_trips : k0_t1_loop.trips = 4 := by decide +kernel
theorem t2_trips : k0_t2_loop.trips = 8 := by decide +kernel
theorem t3_trips : k0_t3_loop.trips = 64 := by decide +kernel
theorem t4_trips : k0_t4_loop.trips = 255 := by decide +kernel

/-- The entry of one batch's tile at row `r` and lane `q`, from the 128-lane piece that holds the lane. -/
def tileAt (v1 : IVec S512x128 32) (xv yv : Vec F S1x512x64 .f32) (r q : Fin 512) : Elt F .f32 :=
  if h0 : q.val < 128 then tile0 v1 xv yv (ix3 (n0 := 1) (n1 := 512) (n2 := 128) 0 r ⟨q.val, h0⟩)
  else if h1 : q.val < 256 then tile1 v1 xv yv (ix3 (n0 := 1) (n1 := 512) (n2 := 128) 0 r ⟨q.val - 128, by omega⟩)
  else if h2 : q.val < 384 then tile2 v1 xv yv (ix3 (n0 := 1) (n1 := 512) (n2 := 128) 0 r ⟨q.val - 256, by omega⟩)
  else tile3 v1 xv yv (ix3 (n0 := 1) (n1 := 512) (n2 := 128) 0 r ⟨q.val - 384, by omega⟩)

section Tiles
variable (c : Dev nD) (XA : Buf (Elt F) (xM.view.loc (c : Thread nD τ))) (YA : Buf (Elt F) (yM.view.loc (c : Thread nD τ)))
  (i : grid0.Coords) (v1 : IVec S512x128 32) (k1 : Fin k0_t1_loop.trips)

/-- The tile buffer after a group's batches: entry `(b, r, q)` is entry `(r, q)` of the tile of the group's batch `b`. -/
def tileFn : S8x512x512.Idx → Elt F .f32 := fun j =>
  tileAt v1 (xLoad c XA i k1 ⟨(j 0).val, t2_trips ▸ (j 0).isLt⟩) (yLoad c YA i k1 ⟨(j 0).val, t2_trips ▸ (j 0).isLt⟩) (j 1) (j 2)

/-- What the batches before `k` of the group store, the last first. -/
def tileL : ℕ → List (View.Piece (Elt F) S8x512x512 .f32)
  | 0 => []
  | k + 1 => if h : k < k0_t2_loop.trips then
      tilePieces v1 ⟨k, h⟩ (xLoad c XA i k1 ⟨k, h⟩) (yLoad c YA i k1 ⟨k, h⟩) ++ tileL k
    else tileL k

theorem tileL_succ (k : Fin k0_t2_loop.trips) : tileL c XA YA i v1 k1 (k.val + 1)
    = tilePieces v1 k (xLoad c XA i k1 k) (yLoad c YA i k1 k) ++ tileL c XA YA i v1 k1 k.val := dif_pos k.isLt

/-- One batch's four pieces over any contents: the batch's rows become its tile, the others stay. -/
theorem tilePieces_read (f : Buf (Elt F) (tM.view.loc (c : Thread nD τ))) (L : List (View.Piece (Elt F) S8x512x512 .f32)) (k : Fin k0_t2_loop.trips)
    (j : S8x512x512.Idx) :
    tM.view.read (Elt F) (tM.view.writes (Elt F) f (tilePieces v1 k (xLoad c XA i k1 k) (yLoad c YA i k1 k) ++ L)) j
      = if (j 0).val = k.val then tileFn c XA YA i v1 k1 j else tM.view.read (Elt F) (tM.view.writes (Elt F) f L) j := by
  have hj2 : (j 2).val < 512 := (j 2).isLt
  have hj1 : (j 1).val < 512 := (j 1).isLt
  simp only [List.cons_append, List.nil_append]
  by_cases hk : (j 0).val = k.val
  · rw [if_pos hk]
    have hkk : (⟨(j 0).val, t2_trips ▸ (j 0).isLt⟩ : Fin k0_t2_loop.trips) = k := Fin.ext hk
    unfold tileFn tileAt
    rw [hkk]
    by_cases h3 : 384 ≤ (j 2).val
    · rw [dif_neg (by omega), dif_neg (by omega), dif_neg (by omega)]
      refine View.read_writes_cons_unit_of_mem _ _ _ _ _ j (ix3 (n0 := 1) (n1 := 512) (n2 := 128) 0 (j 1) ⟨(j 2).val - 384, by omega⟩) (k0_off12_eq k) (fun a => ?_)
      match a with
      | ⟨0, _⟩ => exact hk
      | ⟨1, _⟩ => exact (Nat.zero_add _).symm
      | ⟨2, _⟩ => show (j 2).val = 384 + ((j 2).val - 384); omega
    rw [View.read_writes_cons_unit_of_not_mem (s := S8x512x512) (size := S1x512x128.size) _ _ _ _ _ j (k0_off12_eq k) (2 : Fin 3) (Or.inl (show (j 2).val < 384 by omega))]
    by_cases h2 : 256 ≤ (j 2).val
    · rw [dif_neg (by omega), dif_neg (by omega), dif_pos (by omega)]
      refine View.read_writes_cons_unit_of_mem _ _ _ _ _ j (ix3 (n0 := 1) (n1 := 512) (n2 := 128) 0 (j 1) ⟨(j 2).val - 256, by omega⟩) (k0_off11_eq k) (fun a => ?_)
      match a with
      | ⟨0, _⟩ => exact hk
      | ⟨1, _⟩ => exact (Nat.zero_add _).symm
      | ⟨2, _⟩ => show (j 2).val = 256 + ((j 2).val - 256); omega
    rw [View.read_writes_cons_unit_of_not_mem (s := S8x512x512) (size := S1x512x128.size) _ _ _ _ _ j (k0_off11_eq k) (2 : Fin 3) (Or.inl (show (j 2).val < 256 by omega))]
    by_cases h1 : 128 ≤ (j 2).val
    · rw [dif_neg (by omega), dif_pos (by omega)]
      refine View.read_writes_cons_unit_of_mem _ _ _ _ _ j (ix3 (n0 := 1) (n1 := 512) (n2 := 128) 0 (j 1) ⟨(j 2).val - 128, by omega⟩) (k0_off10_eq k) (fun a => ?_)
      match a with
      | ⟨0, _⟩ => exact hk
      | ⟨1, _⟩ => exact (Nat.zero_add _).symm
      | ⟨2, _⟩ => show (j 2).val = 128 + ((j 2).val - 128); omega
    rw [View.read_writes_cons_unit_of_not_mem (s := S8x512x512) (size := S1x512x128.size) _ _ _ _ _ j (k0_off10_eq k) (2 : Fin 3) (Or.inl (show (j 2).val < 128 by omega))]
    rw [dif_pos (by omega)]
    refine View.read_writes_cons_unit_of_mem _ _ _ _ _ j (ix3 (n0 := 1) (n1 := 512) (n2 := 128) 0 (j 1) ⟨(j 2).val, by omega⟩) (k0_off9_eq k) (fun a => ?_)
    match a with
    | ⟨0, _⟩ => exact hk
    | ⟨1, _⟩ => exact (Nat.zero_add _).symm
    | ⟨2, _⟩ => exact (Nat.zero_add _).symm
  · rw [if_neg hk]
    have hd : (j 0).val < k.val ∨ k.val + 1 ≤ (j 0).val := by omega
    rw [View.read_writes_cons_unit_of_not_mem (s := S8x512x512) (size := S1x512x128.size) _ _ _ _ _ j (k0_off12_eq k) (0 : Fin 3) hd,
      View.read_writes_cons_unit_of_not_mem (s := S8x512x512) (size := S1x512x128.size) _ _ _ _ _ j (k0_off11_eq k) (0 : Fin 3) hd,
      View.read_writes_cons_unit_of_not_mem (s := S8x512x512) (size := S1x512x128.size) _ _ _ _ _ j (k0_off10_eq k) (0 : Fin 3) hd,
      View.read_writes_cons_unit_of_not_mem (s := S8x512x512) (size := S1x512x128.size) _ _ _ _ _ j (k0_off9_eq k) (0 : Fin 3) hd]

/-- After the batches before `k`, those batches' rows are their tiles. -/
theorem tileL_read (f : Buf (Elt F) (tM.view.loc (c : Thread nD τ))) : ∀ k, k ≤ k0_t2_loop.trips → ∀ j : S8x512x512.Idx,
    tM.view.read (Elt F) (tM.view.writes (Elt F) f (tileL c XA YA i v1 k1 k)) j
      = if (j 0).val < k then tileFn c XA YA i v1 k1 j else tM.view.read (Elt F) f j
  | 0, _, j => by rw [if_neg (Nat.not_lt_zero _)]; rfl
  | k + 1, hk, j => by
    rw [tileL_succ c XA YA i v1 k1 ⟨k, hk⟩, tilePieces_read, tileL_read f k (Nat.le_of_succ_le hk) j]
    by_cases h1 : (j 0).val = k
    · rw [if_pos h1, if_pos (by omega)]
    · rw [if_neg h1]
      by_cases h2 : (j 0).val < k
      · rw [if_pos h2, if_pos (by omega)]
      · rw [if_neg h2, if_neg (by omega)]

/-- After a group's batches the tile buffer is `tileFn`. -/
theorem tileL_read_all (f : Buf (Elt F) (tM.view.loc (c : Thread nD τ))) :
    tM.view.read (Elt F) (tM.view.writes (Elt F) f (tileL c XA YA i v1 k1 k0_t2_loop.trips)) = tileFn c XA YA i v1 k1 := by
  funext j
  rw [tileL_read _ _ _ _ _ _ _ _ le_rfl, if_pos (t2_trips ▸ (j 0).isLt)]

end Tiles

/-! ## The flush: a group's tiles into the skewed array -/

/-- A transposed block of 8 batches by 8 rows: entry `(r, b, q)` is the block's entry `(b, r, q)`. -/
theorem swap_apply {α : Type} (w : S8x8x128.Idx → α) (h : S8x8x128.Transposes [1, 0, 2] S8x8x128) (x : S8x8x128.Idx) :
    transpose S8x8x128 [1, 0, 2] w h x = w (ix3 (n0 := 8) (n1 := 8) (n2 := 128) (x 1) (x 0) (x 2)) := by
  refine transpose_apply _ _ _ _ _ (fun a => ?_)
  match a with
  | ⟨0, _⟩ => rfl
  | ⟨1, _⟩ => rfl
  | ⟨2, _⟩ => rfl

theorem pay105_apply (w : Vec F S8x8x128 .f32) (x : S8x8x128.Idx) : k0_pay105 w x = w (ix3 (n0 := 8) (n1 := 8) (n2 := 128) (x 1) (x 0) (x 2)) := by
  unfold k0_pay105; dsimp only; rw [shapeCast_self]; exact swap_apply _ _ _
theorem pay106_apply (w : Vec F S8x8x128 .f32) (x : S8x8x128.Idx) : k0_pay106 w x = w (ix3 (n0 := 8) (n1 := 8) (n2 := 128) (x 1) (x 0) (x 2)) := by
  unfold k0_pay106; dsimp only; rw [shapeCast_self]; exact swap_apply _ _ _
theorem pay107_apply (w : Vec F S8x8x128 .f32) (x : S8x8x128.Idx) : k0_pay107 w x = w (ix3 (n0 := 8) (n1 := 8) (n2 := 128) (x 1) (x 0) (x 2)) := by
  unfold k0_pay107; dsimp only; rw [shapeCast_self]; exact swap_apply _ _ _
theorem pay108_apply (w : Vec F S8x8x128 .f32) (x : S8x8x128.Idx) : k0_pay108 w x = w (ix3 (n0 := 8) (n1 := 8) (n2 := 128) (x 1) (x 0) (x 2)) := by
  unfold k0_pay108; dsimp only; rw [shapeCast_self]; exact swap_apply _ _ _

/-- The four pieces of one trip of the flush, the last first, from the tile buffer `T`. -/
abbrev flushPieces (k1 : Fin k0_t1_loop.trips) (T : S8x512x512.Idx → Elt F .f32) (k : Fin k0_t3_loop.trips) : List (View.Piece (Elt F) S512x32x512 .f32) :=
  [⟨Rect.unit (s := S512x32x512) (k0_off20 k1 k) S8x8x128.size (k0_off20_inb k1 k), k0_pay108 (VecWindow.window T (k0_off19 k) S8x8x128.size (k0_off19_inb k))⟩,
   ⟨Rect.unit (s := S512x32x512) (k0_off18 k1 k) S8x8x128.size (k0_off18_inb k1 k), k0_pay107 (VecWindow.window T (k0_off17 k) S8x8x128.size (k0_off17_inb k))⟩,
   ⟨Rect.unit (s := S512x32x512) (k0_off16 k1 k) S8x8x128.size (k0_off16_inb k1 k), k0_pay106 (VecWindow.window T (k0_off15 k) S8x8x128.size (k0_off15_inb k))⟩,
   ⟨Rect.unit (s := S512x32x512) (k0_off14 k1 k) S8x8x128.size (k0_off14_inb k1 k), k0_pay105 (VecWindow.window T (k0_off13 k) S8x8x128.size (k0_off13_inb k))⟩]

/-- What the trips before `k` of the flush store, the last first. -/
def flushL (k1 : Fin k0_t1_loop.trips) (T : S8x512x512.Idx → Elt F .f32) : ℕ → List (View.Piece (Elt F) S512x32x512 .f32)
  | 0 => []
  | k + 1 => if h : k < k0_t3_loop.trips then flushPieces k1 T ⟨k, h⟩ ++ flushL k1 T k else flushL k1 T k

theorem flushL_succ (k1 : Fin k0_t1_loop.trips) (T : S8x512x512.Idx → Elt F .f32) (k : Fin k0_t3_loop.trips) :
    flushL k1 T (k.val + 1) = flushPieces k1 T k ++ flushL k1 T k.val := dif_pos k.isLt

theorem window_ix {α : Type} (T : S8x512x512.Idx → α) {off : Fin 3 → ℕ} (inb : ∀ a, off a + S8x8x128.size a ≤ S8x512x512.size a) {o0 o1 o2 : ℕ} (e : off = ![o0, o1, o2])
    (y : S8x8x128.Idx) (j : S8x512x512.Idx) (h0 : (j 0).val = o0 + (y 0).val) (h1 : (j 1).val = o1 + (y 1).val) (h2 : (j 2).val = o2 + (y 2).val) :
    VecWindow.window (s := S8x512x512) T off S8x8x128.size inb y = T j := by
  subst e
  refine congrArg T (funext fun a => Fin.ext ?_)
  match a with
  | ⟨0, _⟩ => show o0 + 1 * (y 0).val = _; rw [Nat.one_mul]; exact h0.symm
  | ⟨1, _⟩ => show o1 + 1 * (y 1).val = _; rw [Nat.one_mul]; exact h1.symm
  | ⟨2, _⟩ => show o2 + 1 * (y 2).val = _; rw [Nat.one_mul]; exact h2.symm

section Flush
variable (c : Dev nD) (k1 : Fin k0_t1_loop.trips) (T : S8x512x512.Idx → Elt F .f32)

/-- Entry `j` of the skewed array as the group's tiles give it: batch `j 1` of the group, row `j 0`, lane `j 2`. -/
def flushAt (j : S512x32x512.Idx) : Elt F .f32 := T (ix3 (n0 := 8) (n1 := 512) (n2 := 512) ⟨(j 1).val % 8, Nat.mod_lt _ (by decide)⟩ (j 0) (j 2))

theorem flush_hit (k : Fin k0_t3_loop.trips) (j : S512x32x512.Idx) (hb : 8 * k1.val ≤ (j 1).val ∧ (j 1).val < 8 * k1.val + 8)
    (hr : 8 * k.val ≤ (j 0).val ∧ (j 0).val < 8 * k.val + 8) {off : Fin 3 → ℕ} (inb : ∀ a, off a + S8x8x128.size a ≤ S8x512x512.size a) {o : ℕ}
    (e : off = ![0, 8 * k.val, o]) (x : S8x8x128.Idx) (h0 : (j 0).val = 8 * k.val + (x 0).val) (h1 : (j 1).val = 8 * k1.val + (x 1).val) (h2 : (j 2).val = o + (x 2).val) :
    VecWindow.window (s := S8x512x512) T off S8x8x128.size inb (ix3 (n0 := 8) (n1 := 8) (n2 := 128) (x 1) (x 0) (x 2)) = flushAt T j := by
  refine window_ix T inb e _ _ ?_ ?_ ?_
  · show (j 1).val % 8 = 0 + (x 1).val
    have : (x 1).val < 8 := (x 1).isLt
    omega
  · exact h0
  · exact h2

theorem flushPieces_read (f : Buf (Elt F) (sM.view.loc (c : Thread nD τ))) (L : List (View.Piece (Elt F) S512x32x512 .f32)) (k : Fin k0_t3_loop.trips)
    (j : S512x32x512.Idx) :
    sM.view.read (Elt F) (sM.view.writes (Elt F) f (flushPieces k1 T k ++ L)) j
      = if (8 * k1.val ≤ (j 1).val ∧ (j 1).val < 8 * k1.val + 8) ∧ (8 * k.val ≤ (j 0).val ∧ (j 0).val < 8 * k.val + 8) then flushAt T j
        else sM.view.read (Elt F) (sM.view.writes (Elt F) f L) j := by
  have hj2 : (j 2).val < 512 := (j 2).isLt
  simp only [List.cons_append, List.nil_append]
  by_cases hk : (8 * k1.val ≤ (j 1).val ∧ (j 1).val < 8 * k1.val + 8) ∧ (8 * k.val ≤ (j 0).val ∧ (j 0).val < 8 * k.val + 8)
  · rw [if_pos hk]
    by_cases h3 : 384 ≤ (j 2).val
    · refine (View.read_writes_cons_unit_of_mem (s := S512x32x512) (size := S8x8x128.size) _ _ _ _ _ j (ix3 (n0 := 8) (n1 := 8) (n2 := 128) ⟨(j 0).val - 8 * k.val, by omega⟩ ⟨(j 1).val - 8 * k1.val, by omega⟩ ⟨(j 2).val - 384, by omega⟩) (k0_off20_eq k1 k) (fun a => match a with
        | ⟨0, _⟩ => (show (j 0).val = 8 * k.val + ((j 0).val - 8 * k.val) by omega)
        | ⟨1, _⟩ => (show (j 1).val = 8 * k1.val + ((j 1).val - 8 * k1.val) by omega)
        | ⟨2, _⟩ => (show (j 2).val = 384 + ((j 2).val - 384) by omega))).trans ((pay108_apply _ _).trans ?_)
      exact flush_hit k1 T k j hk.1 hk.2 (k0_off19_inb k) (k0_off19_eq k) (ix3 (n0 := 8) (n1 := 8) (n2 := 128) ⟨(j 0).val - 8 * k.val, by omega⟩ ⟨(j 1).val - 8 * k1.val, by omega⟩ ⟨(j 2).val - 384, by omega⟩)
        (show (j 0).val = 8 * k.val + ((j 0).val - 8 * k.val) by omega) (show (j 1).val = 8 * k1.val + ((j 1).val - 8 * k1.val) by omega) (show (j 2).val = 384 + ((j 2).val - 384) by omega)
    rw [View.read_writes_cons_unit_of_not_mem (s := S512x32x512) (size := S8x8x128.size) _ _ _ _ _ j (k0_off20_eq k1 k) (2 : Fin 3) (Or.inl (show (j 2).val < 384 by omega))]
    by_cases h2 : 256 ≤ (j 2).val
    · refine (View.read_writes_cons_unit_of_mem (s := S512x32x512) (size := S8x8x128.size) _ _ _ _ _ j (ix3 (n0 := 8) (n1 := 8) (n2 := 128) ⟨(j 0).val - 8 * k.val, by omega⟩ ⟨(j 1).val - 8 * k1.val, by omega⟩ ⟨(j 2).val - 256, by omega⟩) (k0_off18_eq k1 k) (fun a => match a with
        | ⟨0, _⟩ => (show (j 0).val = 8 * k.val + ((j 0).val - 8 * k.val) by omega)
        | ⟨1, _⟩ => (show (j 1).val = 8 * k1.val + ((j 1).val - 8 * k1.val) by omega)
        | ⟨2, _⟩ => (show (j 2).val = 256 + ((j 2).val - 256) by omega))).trans ((pay107_apply _ _).trans ?_)
      exact flush_hit k1 T k j hk.1 hk.2 (k0_off17_inb k) (k0_off17_eq k) (ix3 (n0 := 8) (n1 := 8) (n2 := 128) ⟨(j 0).val - 8 * k.val, by omega⟩ ⟨(j 1).val - 8 * k1.val, by omega⟩ ⟨(j 2).val - 256, by omega⟩)
        (show (j 0).val = 8 * k.val + ((j 0).val - 8 * k.val) by omega) (show (j 1).val = 8 * k1.val + ((j 1).val - 8 * k1.val) by omega) (show (j 2).val = 256 + ((j 2).val - 256) by omega)
    rw [View.read_writes_cons_unit_of_not_mem (s := S512x32x512) (size := S8x8x128.size) _ _ _ _ _ j (k0_off18_eq k1 k) (2 : Fin 3) (Or.inl (show (j 2).val < 256 by omega))]
    by_cases h1 : 128 ≤ (j 2).val
    · refine (View.read_writes_cons_unit_of_mem (s := S512x32x512) (size := S8x8x128.size) _ _ _ _ _ j (ix3 (n0 := 8) (n1 := 8) (n2 := 128) ⟨(j 0).val - 8 * k.val, by omega⟩ ⟨(j 1).val - 8 * k1.val, by omega⟩ ⟨(j 2).val - 128, by omega⟩) (k0_off16_eq k1 k) (fun a => match a with
        | ⟨0, _⟩ => (show (j 0).val = 8 * k.val + ((j 0).val - 8 * k.val) by omega)
        | ⟨1, _⟩ => (show (j 1).val = 8 * k1.val + ((j 1).val - 8 * k1.val) by omega)
        | ⟨2, _⟩ => (show (j 2).val = 128 + ((j 2).val - 128) by omega))).trans ((pay106_apply _ _).trans ?_)
      exact flush_hit k1 T k j hk.1 hk.2 (k0_off15_inb k) (k0_off15_eq k) (ix3 (n0 := 8) (n1 := 8) (n2 := 128) ⟨(j 0).val - 8 * k.val, by omega⟩ ⟨(j 1).val - 8 * k1.val, by omega⟩ ⟨(j 2).val - 128, by omega⟩)
        (show (j 0).val = 8 * k.val + ((j 0).val - 8 * k.val) by omega) (show (j 1).val = 8 * k1.val + ((j 1).val - 8 * k1.val) by omega) (show (j 2).val = 128 + ((j 2).val - 128) by omega)
    rw [View.read_writes_cons_unit_of_not_mem (s := S512x32x512) (size := S8x8x128.size) _ _ _ _ _ j (k0_off16_eq k1 k) (2 : Fin 3) (Or.inl (show (j 2).val < 128 by omega))]
    refine (View.read_writes_cons_unit_of_mem (s := S512x32x512) (size := S8x8x128.size) _ _ _ _ _ j (ix3 (n0 := 8) (n1 := 8) (n2 := 128) ⟨(j 0).val - 8 * k.val, by omega⟩ ⟨(j 1).val - 8 * k1.val, by omega⟩ ⟨(j 2).val, by omega⟩) (k0_off14_eq k1 k) (fun a => match a with
        | ⟨0, _⟩ => (show (j 0).val = 8 * k.val + ((j 0).val - 8 * k.val) by omega)
        | ⟨1, _⟩ => (show (j 1).val = 8 * k1.val + ((j 1).val - 8 * k1.val) by omega)
        | ⟨2, _⟩ => (show (j 2).val = 0 + (j 2).val by omega))).trans ((pay105_apply _ _).trans ?_)
    exact flush_hit k1 T k j hk.1 hk.2 (k0_off13_inb k) (k0_off13_eq k) (ix3 (n0 := 8) (n1 := 8) (n2 := 128) ⟨(j 0).val - 8 * k.val, by omega⟩ ⟨(j 1).val - 8 * k1.val, by omega⟩ ⟨(j 2).val, by omega⟩)
        (show (j 0).val = 8 * k.val + ((j 0).val - 8 * k.val) by omega) (show (j 1).val = 8 * k1.val + ((j 1).val - 8 * k1.val) by omega) (show (j 2).val = 0 + (j 2).val by omega)
  · rw [if_neg hk]
    by_cases hb : 8 * k1.val ≤ (j 1).val ∧ (j 1).val < 8 * k1.val + 8
    · have hd : (j 0).val < 8 * k.val ∨ 8 * k.val + 8 ≤ (j 0).val := by omega
      rw [View.read_writes_cons_unit_of_not_mem (s := S512x32x512) (size := S8x8x128.size) _ _ _ _ _ j (k0_off20_eq k1 k) (0 : Fin 3) hd,
        View.read_writes_cons_unit_of_not_mem (s := S512x32x512) (size := S8x8x128.size) _ _ _ _ _ j (k0_off18_eq k1 k) (0 : Fin 3) hd,
        View.read_writes_cons_unit_of_not_mem (s := S512x32x512) (size := S8x8x128.size) _ _ _ _ _ j (k0_off16_eq k1 k) (0 : Fin 3) hd,
        View.read_writes_cons_unit_of_not_mem (s := S512x32x512) (size := S8x8x128.size) _ _ _ _ _ j (k0_off14_eq k1 k) (0 : Fin 3) hd]
    · have hd : (j 1).val < 8 * k1.val ∨ 8 * k1.val + 8 ≤ (j 1).val := by omega
      rw [View.read_writes_cons_unit_of_not_mem (s := S512x32x512) (size := S8x8x128.size) _ _ _ _ _ j (k0_off20_eq k1 k) (1 : Fin 3) hd,
        View.read_writes_cons_unit_of_not_mem (s := S512x32x512) (size := S8x8x128.size) _ _ _ _ _ j (k0_off18_eq k1 k) (1 : Fin 3) hd,
        View.read_writes_cons_unit_of_not_mem (s := S512x32x512) (size := S8x8x128.size) _ _ _ _ _ j (k0_off16_eq k1 k) (1 : Fin 3) hd,
        View.read_writes_cons_unit_of_not_mem (s := S512x32x512) (size := S8x8x128.size) _ _ _ _ _ j (k0_off14_eq k1 k) (1 : Fin 3) hd]

/-- After the trips before `k`, the group's rows below `8 k` are the tiles', everything else as before. -/
theorem flushL_read (f : Buf (Elt F) (sM.view.loc (c : Thread nD τ))) (L : List (View.Piece (Elt F) S512x32x512 .f32)) : ∀ k, k ≤ k0_t3_loop.trips → ∀ j : S512x32x512.Idx,
    sM.view.read (Elt F) (sM.view.writes (Elt F) f (flushL k1 T k ++ L)) j
      = if (8 * k1.val ≤ (j 1).val ∧ (j 1).val < 8 * k1.val + 8) ∧ (j 0).val < 8 * k then flushAt T j
        else sM.view.read (Elt F) (sM.view.writes (Elt F) f L) j
  | 0, _, j => by rw [if_neg (by omega)]; rfl
  | k + 1, hk, j => by
    rw [flushL_succ k1 T ⟨k, hk⟩, List.append_assoc, flushPieces_read, flushL_read f L k (Nat.le_of_succ_le hk) j]
    show (if _ ∧ (8 * k ≤ (j 0).val ∧ (j 0).val < 8 * k + 8) then _ else _) = _
    by_cases h1 : (8 * k1.val ≤ (j 1).val ∧ (j 1).val < 8 * k1.val + 8)
    · by_cases h2 : (j 0).val < 8 * k
      · rw [if_neg (by omega), if_pos ⟨h1, h2⟩, if_pos (by omega)]
      · by_cases h3 : (j 0).val < 8 * k + 8
        · rw [if_pos (by omega), if_pos (by omega)]
        · rw [if_neg (by omega), if_neg (by omega), if_neg (by omega)]
    · rw [if_neg (by tauto), if_neg (by tauto), if_neg (by tauto)]

end Flush

/-! ## The skewed array after all groups -/

section Skew
variable (c : Dev nD) (XA : Buf (Elt F) (xM.view.loc (c : Thread nD τ))) (YA : Buf (Elt F) (yM.view.loc (c : Thread nD τ)))
  (i : grid0.Coords) (v1 : IVec S512x128 32)

/-- The skewed array: entry `(r, b, q)` is entry `(r, q)` of the tile of batch `b` of the point. -/
def skewFn : S512x32x512.Idx → Elt F .f32 := fun j =>
  flushAt (tileFn c XA YA i v1 ⟨(j 1).val / 8, t1_trips ▸ (by have h : (j 1).val < 32 := (j 1).isLt; omega)⟩) j

/-- What the groups before `g` leave in the skewed array, the last first. -/
def skewL : ℕ → List (View.Piece (Elt F) S512x32x512 .f32)
  | 0 => []
  | g + 1 => if h : g < k0_t1_loop.trips then flushL ⟨g, h⟩ (tileFn c XA YA i v1 ⟨g, h⟩) k0_t3_loop.trips ++ skewL g else skewL g

theorem skewL_succ (g : Fin k0_t1_loop.trips) : skewL c XA YA i v1 (g.val + 1)
    = flushL g (tileFn c XA YA i v1 g) k0_t3_loop.trips ++ skewL c XA YA i v1 g.val := dif_pos g.isLt

theorem skewL_read (f : Buf (Elt F) (sM.view.loc (c : Thread nD τ))) : ∀ g, g ≤ k0_t1_loop.trips → ∀ j : S512x32x512.Idx, (j 1).val < 8 * g →
    sM.view.read (Elt F) (sM.view.writes (Elt F) f (skewL c XA YA i v1 g)) j = skewFn c XA YA i v1 j
  | 0, _, j, hj => absurd hj (by omega)
  | g + 1, hg, j, hj => by
    have hj0 : (j 0).val < 512 := (j 0).isLt
    rw [skewL_succ c XA YA i v1 ⟨g, hg⟩, flushL_read _ _ _ _ _ _ le_rfl]
    show (if (8 * g ≤ (j 1).val ∧ (j 1).val < 8 * g + 8) ∧ (j 0).val < 8 * k0_t3_loop.trips then _ else _) = _
    by_cases h : 8 * g ≤ (j 1).val
    · rw [if_pos ⟨⟨h, by omega⟩, by rw [t3_trips]; omega⟩]
      unfold skewFn
      have e : (⟨(j 1).val / 8, t1_trips ▸ (by have h : (j 1).val < 32 := (j 1).isLt; omega)⟩ : Fin k0_t1_loop.trips) = ⟨g, hg⟩ := Fin.ext (by show (j 1).val / 8 = g; omega)
      rw [e]
    · rw [if_neg (by omega)]
      exact skewL_read f g (Nat.le_of_succ_le hg) j (by omega)

/-- The whole array once every group is done. -/
theorem skewL_all (f : Buf (Elt F) (sM.view.loc (c : Thread nD τ))) :
    sM.view.read (Elt F) (sM.view.writes (Elt F) f (skewL c XA YA i v1 k0_t1_loop.trips)) = skewFn c XA YA i v1 := by
  funext j
  exact skewL_read c XA YA i v1 f _ le_rfl j (by have h : (j 1).val < 32 := (j 1).isLt; rw [t1_trips]; omega)

end Skew
end Cert.KernelIdeal.Sdtw
end
-- ==== Proof.KernelIdeal.Sweep.lean ====
/-
  One anti-diagonal of the recurrence on vectors (`sweepV`), and that every spelling of it in the second phase is it:
  the plain sweep after the loop, and both halves of the paired sweep, whose second half rebuilds the rolled first
  half from the carried vectors instead of rolling it.
-/
module

public import proofs.«01_k».proof.Proof.KernelIdeal.Contents
public import Idealize.ShloMosaic.Lib.KernelVsHost

@[expose] public section

set_option maxRecDepth 16384

noncomputable section

namespace Cert.KernelIdeal.Sdtw

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

open Idealize.ShloMosaic.ValueIdx

/-- Every lane's left neighbour, around the end. -/
def roll1 (x : FVec F S8x512 .f32) : FVec F S8x512 .f32 := dynamicRotate 1 1#32 none x rotates_S8x512_d1

/-- Two lanes at once are one lane twice. -/
theorem roll_two (x : FVec F S8x512 .f32) (h) : dynamicRotate 1 2#32 none x h = roll1 (roll1 x) := by
  funext j
  have hj : (j 1).val < 512 := (j 1).isLt
  refine congrArg x (funext fun b => ?_)
  match b with
  | ⟨0, _⟩ => rfl
  | ⟨1, _⟩ =>
    refine Fin.ext ?_
    show ((j 1).val + 512 - 2 % 512) % 512 = (((j 1).val + 512 - 1 % 512) % 512 + 512 - 1 % 512) % 512
    omega

/-- The soft minimum of three vectors, base 2: the least, less the base-2 logarithm of the sum of the powers of two of
    the differences. -/
def softV (up dg lf : FVec F S8x512 .f32) : FVec F S8x512 .f32 :=
  subf (minimumf (minimumf up dg) lf)
    (mulf (log (addf (addf (exp2 (subf (minimumf (minimumf up dg) lf) up)) (exp2 (subf (minimumf (minimumf up dg) lf) dg)))
      (exp2 (subf (minimumf (minimumf up dg) lf) lf)))) (broadcast S8x512 (Named.named κ "log2e" 0x3FB8AA3B#32)))

/-- A row of the skewed array as a vector of 8 batches by 512 lanes. -/
abbrev rowV (w : Vec F S1x8x512 .f32) : FVec F S8x512 .f32 := shapeCast S8x512 w shapeCasts_S1x8x512_S8x512

/-- One anti-diagonal: the distances' row plus the soft minimum of the last diagonal's left neighbours, the one before's
    left neighbours, and the last diagonal. -/
def sweepV (a b : FVec F S8x512 .f32) (w : Vec F S1x8x512 .f32) : FVec F S8x512 .f32 :=
  addf (rowV w) (softV (roll1 a) (roll1 b) a)

section Spellings
variable (a b : FVec F S8x512 .f32) (w w' : Vec F S1x8x512 .f32)

theorem first0 : k0_pay30 a b w = sweepV a b w := rfl
theorem first1 : k0_pay41 a b w = sweepV a b w := rfl
theorem first2 : k0_pay56 (k0_pay50 w) (k0_pay53 a b) (k0_pay54 a b) k0_pay55 = sweepV a b w := rfl
theorem first3 : k0_pay68 a (k0_pay62 w) (k0_pay65 a b) (k0_pay66 a b) (k0_pay67 a b) = sweepV a b w := rfl
theorem first0' : k0_pay75 a (k0_pay70 a) (k0_pay72 b) w = sweepV a b w := rfl
theorem first1' : k0_pay80 b a 1#32 w = sweepV a b w := rfl
theorem first2' : k0_pay89 b a w = sweepV a b w := rfl
theorem first3' : k0_pay99 b a w = sweepV a b w := rfl
theorem tail0 : k0_pay119 a b w = sweepV a b w := rfl
theorem tail1 : k0_pay120 a b w = sweepV a b w := rfl
theorem tail2 : k0_pay121 a b w = sweepV a b w := rfl
theorem tail3 : k0_pay127 a (k0_pay122 w) (k0_pay124 b) (k0_pay125 a b) (k0_pay126 a b) = sweepV a b w := rfl
theorem tail0' : k0_pay128 b a w = sweepV a b w := rfl
theorem tail1' : k0_pay134 (k0_pay129 w) (k0_pay132 b a) (k0_pay133 b a) = sweepV a b w := rfl
theorem tail2' : k0_pay135 b a w = sweepV a b w := rfl
theorem tail3' : k0_pay136 b a w = sweepV a b w := rfl

/-- A rolled diagonal is the diagonal of the rolled vectors. -/
theorem roll_sweep : roll1 (sweepV a b w) = addf (roll1 (rowV w)) (softV (roll1 (roll1 a)) (roll1 (roll1 b)) (roll1 a)) := rfl

theorem second0 : k0_pay34 (k0_pay24 a) (k0_pay28 w') (k0_pay29 w) (sweepV a b w) (k0_pay31 a b) (k0_pay32 a b) k0_pay33 = sweepV (sweepV a b w) a w' := by
  conv_rhs => unfold sweepV
  rw [show roll1 (addf (rowV w) (softV (roll1 a) (roll1 b) a)) = _ from roll_sweep a b w]
  unfold k0_pay34 k0_pay31 k0_pay32 k0_pay31 k0_pay25 k0_pay26
  dsimp only
  rw [roll_two, roll_two]
  rfl

theorem second1 : k0_pay45 (k0_pay35 a) (k0_pay39 w') (k0_pay40 w) (sweepV a b w) (k0_pay42 a b) (k0_pay43 a b) (k0_pay44 a b) = sweepV (sweepV a b w) a w' := by
  conv_rhs => unfold sweepV
  rw [show roll1 (addf (rowV w) (softV (roll1 a) (roll1 b) a)) = _ from roll_sweep a b w]
  unfold k0_pay45 k0_pay43 k0_pay44 k0_pay42 k0_pay36 k0_pay37
  dsimp only
  rw [roll_two, roll_two]
  rfl

theorem second2 : k0_pay57 (k0_pay46 a) (k0_pay47 a) (k0_pay49 b) (k0_pay50 w) (k0_pay51 w') (k0_pay52 w) (k0_pay53 a b) (k0_pay54 a b) k0_pay55
    = sweepV (sweepV a b w) a w' := by
  conv_rhs => unfold sweepV
  rw [show roll1 (addf (rowV w) (softV (roll1 a) (roll1 b) a)) = _ from roll_sweep a b w]
  unfold k0_pay57 k0_pay47 k0_pay49
  dsimp only
  rw [roll_two, roll_two]
  rfl

theorem second3 : k0_pay69 a (k0_pay58 a) (k0_pay59 a) (k0_pay61 b) (k0_pay62 w) (k0_pay63 w') (k0_pay64 w) (k0_pay65 a b) (k0_pay66 a b) (k0_pay67 a b)
    = sweepV (sweepV a b w) a w' := by
  conv_rhs => unfold sweepV
  rw [show roll1 (addf (rowV w) (softV (roll1 a) (roll1 b) a)) = _ from roll_sweep a b w]
  unfold k0_pay69 k0_pay59 k0_pay61
  dsimp only
  rw [roll_two, roll_two]
  rfl

theorem second0' : k0_pay76 a (k0_pay70 a) (k0_pay71 a) (k0_pay72 b) (k0_pay73 b) w w' = sweepV (sweepV a b w) a w' := by
  conv_rhs => unfold sweepV
  rw [show roll1 (addf (rowV w) (softV (roll1 a) (roll1 b) a)) = _ from roll_sweep a b w]
  unfold k0_pay76 k0_pay71 k0_pay73
  dsimp only
  rw [roll_two, roll_two]
  rfl

theorem second1' : k0_pay85 (k0_pay79 w') (k0_pay82 b a 1#32 w) (k0_pay83 b a 1#32 w) (k0_pay84 b a 1#32 w) = sweepV (sweepV a b w) a w' := by
  conv_rhs => unfold sweepV
  rw [show roll1 (addf (rowV w) (softV (roll1 a) (roll1 b) a)) = _ from roll_sweep a b w]
  unfold k0_pay85 k0_pay83 k0_pay84 k0_pay82 k0_pay81
  dsimp only
  rw [roll_two, roll_two]
  rfl

theorem second2' : k0_pay92 (k0_pay86 a) (k0_pay88 w') (sweepV a b w) (k0_pay90 b a w) (k0_pay91 b a w) = sweepV (sweepV a b w) a w' := by
  conv_rhs => unfold sweepV
  rw [show roll1 (addf (rowV w) (softV (roll1 a) (roll1 b) a)) = _ from roll_sweep a b w]
  unfold k0_pay92 k0_pay91 k0_pay90
  dsimp only
  rw [roll_two, roll_two]
  rfl

theorem second3' : k0_pay118 (k0_pay93 a) (k0_pay97 w') (k0_pay98 w) (sweepV a b w) (k0_pay100 b a) (k0_pay101 b a) (k0_pay102 b a) = sweepV (sweepV a b w) a w' := by
  conv_rhs => unfold sweepV
  rw [show roll1 (addf (rowV w) (softV (roll1 a) (roll1 b) a)) = _ from roll_sweep a b w]
  unfold k0_pay118 k0_pay101 k0_pay102 k0_pay100 k0_pay94 k0_pay95
  dsimp only
  rw [roll_two, roll_two]
  rfl

end Spellings

/-! ## The diagonals of one group of eight batches -/

/-- Row `(s mod 512)` of the skewed array for the group of eight batches from `o` on. -/
def skewRow (S : S512x32x512.Idx → Elt F .f32) (o : Fin 25) (s : ℕ) : Vec F S1x8x512 .f32 := fun j =>
  S (ix3 (n0 := 512) (n1 := 32) (n2 := 512) ⟨s % 512, Nat.mod_lt _ (by decide)⟩ ⟨o.val + (j 1).val, by have h : (j 1).val < 8 := (j 1).isLt; have := o.isLt; omega⟩ (j 2))

/-- The last two diagonals after `n` sweeps from `(a, b)`. -/
def sweeps (S : S512x32x512.Idx → Elt F .f32) (o : Fin 25) (p : FVec F S8x512 .f32 × FVec F S8x512 .f32) : ℕ → FVec F S8x512 .f32 × FVec F S8x512 .f32
  | 0 => p
  | n + 1 => (sweepV (sweeps S o p n).1 (sweeps S o p n).2 (skewRow S o (n + 1)), (sweeps S o p n).1)

/-- A load of one row of eight batches is that row. -/
theorem load_row (S : S512x32x512.Idx → Elt F .f32) {off : Fin 3 → ℕ} (inb : ∀ a, off a + S1x8x512.size a ≤ S512x32x512.size a) {s : ℕ} (o : Fin 25)
    (e : off = ![s % 512, o.val, 0]) : VecWindow.window (s := S512x32x512) S off S1x8x512.size inb = skewRow S o s := by
  subst e
  funext y
  refine congrArg S (funext fun a => Fin.ext ?_)
  have h0 : (y 0).val = 0 := by have h : (y 0).val < 1 := (y 0).isLt; omega
  match a with
  | ⟨0, _⟩ => show s % 512 + 1 * (y 0).val = s % 512; omega
  | ⟨1, _⟩ => show o.val + 1 * (y 1).val = o.val + (y 1).val; omega
  | ⟨2, _⟩ => show 0 + 1 * (y 2).val = (y 2).val; omega

theorem o21 : ∀ k : Fin k0_t4_loop.trips, k0_off21 k = ![(4 * k.val + 1) % 512, 0, 0] := by decide +kernel
theorem o22 : ∀ k : Fin k0_t4_loop.trips, k0_off22 k 1#32 = ![(4 * k.val + 2) % 512, 0, 0] := by decide +kernel
theorem o22' : ∀ k : Fin k0_t4_loop.trips, k0_off22 k 2#32 = ![(4 * k.val + 3) % 512, 0, 0] := by decide +kernel
theorem o29 : ∀ k : Fin k0_t4_loop.trips, k0_off29 k = ![(4 * k.val + 4) % 512, 0, 0] := by decide +kernel
theorem o23 : ∀ k : Fin k0_t4_loop.trips, k0_off23 k = ![(4 * k.val + 1) % 512, 8, 0] := by decide +kernel
theorem o24 : ∀ k : Fin k0_t4_loop.trips, k0_off24 k 1#32 = ![(4 * k.val + 2) % 512, 8, 0] := by decide +kernel
theorem o24' : ∀ k : Fin k0_t4_loop.trips, k0_off24 k 2#32 = ![(4 * k.val + 3) % 512, 8, 0] := by decide +kernel
theorem o30 : ∀ k : Fin k0_t4_loop.trips, k0_off30 k = ![(4 * k.val + 4) % 512, 8, 0] := by decide +kernel
theorem o25 : ∀ k : Fin k0_t4_loop.trips, k0_off25 k = ![(4 * k.val + 1) % 512, 16, 0] := by decide +kernel
theorem o26 : ∀ k : Fin k0_t4_loop.trips, k0_off26 k 1#32 = ![(4 * k.val + 2) % 512, 16, 0] := by decide +kernel
theorem o26' : ∀ k : Fin k0_t4_loop.trips, k0_off26 k 2#32 = ![(4 * k.val + 3) % 512, 16, 0] := by decide +kernel
theorem o31 : ∀ k : Fin k0_t4_loop.trips, k0_off31 k = ![(4 * k.val + 4) % 512, 16, 0] := by decide +kernel
theorem o27 : ∀ k : Fin k0_t4_loop.trips, k0_off27 k = ![(4 * k.val + 1) % 512, 24, 0] := by decide +kernel
theorem o28 : ∀ k : Fin k0_t4_loop.trips, k0_off28 k 1#32 = ![(4 * k.val + 2) % 512, 24, 0] := by decide +kernel
theorem o28' : ∀ k : Fin k0_t4_loop.trips, k0_off28 k 2#32 = ![(4 * k.val + 3) % 512, 24, 0] := by decide +kernel
theorem o32 : ∀ k : Fin k0_t4_loop.trips, k0_off32 k = ![(4 * k.val + 4) % 512, 24, 0] := by decide +kernel
theorem o33 : k0_off33 1021#32 = ![1021 % 512, 0, 0] := by decide +kernel
theorem o33' : k0_off33 1022#32 = ![1022 % 512, 0, 0] := by decide +kernel
theorem o34 : k0_off34 1021#32 = ![1021 % 512, 8, 0] := by decide +kernel
theorem o34' : k0_off34 1022#32 = ![1022 % 512, 8, 0] := by decide +kernel
theorem o35 : k0_off35 1021#32 = ![1021 % 512, 16, 0] := by decide +kernel
theorem o35' : k0_off35 1022#32 = ![1022 % 512, 16, 0] := by decide +kernel
theorem o36 : k0_off36 1021#32 = ![1021 % 512, 24, 0] := by decide +kernel
theorem o36' : k0_off36 1022#32 = ![1022 % 512, 24, 0] := by decide +kernel

end Cert.KernelIdeal.Sdtw
end
-- ==== Proof.KernelIdeal.Loops.lean ====
/-
  The counted loops by their invariants: the batches of a group, the group's flush, the groups.
-/
module

public import proofs.«01_k».proof.Proof.KernelIdeal.Sweep

@[expose] public section

set_option maxRecDepth 16384

noncomputable section

namespace Cert.KernelIdeal.Sdtw

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

open Idealize.ShloMosaic.ValueIdx

section Loops
variable (c : Dev nD) (XA : Buf (Elt F) (xM.view.loc (c : Thread nD τ))) (YA : Buf (Elt F) (yM.view.loc (c : Thread nD τ)))
  (i : grid0.Coords) (arg3 : Memref sig .tc .vmem S32x1 .f32) (harg3 : arg3.IsWhole) (a0 : BitVec 32) (v1 : IVec S512x128 32)

/-- The transfers before batch `b` of point `p`: in flight up to the last batch, at rest after it. -/
def dmaAt (p b : ℕ) : sProp 𝕄 := if b < 32 then liveAt c XA YA p b else idleAt c XA YA b

omit [FloatOps F] [Named F] in
theorem dmaAt_live {p b : ℕ} (h : b < 32) : dmaAt c XA YA p b = liveAt c XA YA p b := if_pos h
omit [FloatOps F] [Named F] in
theorem dmaAt_idle {p b : ℕ} (h : ¬ b < 32) : dmaAt c XA YA p b = idleAt c XA YA b := if_neg h

abbrev sP (f : Buf (Elt F) (sM.view.loc (c : Thread nD τ))) : sProp 𝕄 := sM.view.loc (c : Thread nD τ) ↦[sM.view.set]{fullShare} f

/-- One batch, whichever it is. -/
theorem tripAny (k1 : Fin k0_t1_loop.trips) (a10 : BitVec 32) (k2 : Fin k0_t2_loop.trips) (f : Buf (Elt F) (tM.view.loc (c : Thread nD τ))) :
    iprop(tP c f ∗ dmaAt c XA YA (i 0).val (8 * k1.val + k2.val))
      ⊢ wp frame (wpE (defs₀ (F := F)) 𝒱₀ (c : Thread nD τ) none) Set.univ (tripG i arg3 harg3 a0 v1 k1 a10 k2)
        (fun _ => iprop(tP c (tM.view.writes (Elt F) f (tilePieces v1 k2 (xLoad c XA i k1 k2) (yLoad c YA i k1 k2)))
          ∗ dmaAt c XA YA (i 0).val (8 * k1.val + k2.val + 1))) := by
  rw [dmaAt_live c XA YA (p := (i 0).val) (b_lt k1 k2)]
  by_cases h : 8 * k1.val + k2.val + 1 < 32
  · rw [dmaAt_live c XA YA (p := (i 0).val) h]
    exact tripNext c XA YA i arg3 harg3 a0 v1 k1 a10 k2 h f
  · rw [dmaAt_idle c XA YA (p := (i 0).val) h]
    exact tripLast c XA YA i arg3 harg3 a0 v1 k1 a10 k2 h f

/-- One batch, over the tiles of the batches before it. -/
theorem batchStep (k1 : Fin k0_t1_loop.trips) (a10 : BitVec 32) (f : Buf (Elt F) (tM.view.loc (c : Thread nD τ))) (k : Fin k0_t2_loop.trips) :
    iprop(tP c (tM.view.writes (Elt F) f (tileL c XA YA i v1 k1 k.val)) ∗ dmaAt c XA YA (i 0).val (8 * k1.val + k.val))
      ⊢ wp frame (wpE (defs₀ (F := F)) 𝒱₀ (c : Thread nD τ) none) Set.univ (tripG i arg3 harg3 a0 v1 k1 a10 k)
        (fun _ => iprop(tP c (tM.view.writes (Elt F) f (tileL c XA YA i v1 k1 (k.val + 1))) ∗ dmaAt c XA YA (i 0).val (8 * k1.val + (k.val + 1)))) := by
  have e1 : tM.view.writes (Elt F) f (tileL c XA YA i v1 k1 (k.val + 1))
      = tM.view.writes (Elt F) (tM.view.writes (Elt F) f (tileL c XA YA i v1 k1 k.val)) (tilePieces v1 k (xLoad c XA i k1 k) (yLoad c YA i k1 k)) := by
    rw [tileL_succ, View.writes_append]
  have e2 : dmaAt c XA YA (i 0).val (8 * k1.val + (k.val + 1)) = dmaAt c XA YA (i 0).val (8 * k1.val + k.val + 1) := rfl
  rw [e1, e2]
  exact tripAny c XA YA i arg3 harg3 a0 v1 k1 a10 k _

set_option maxHeartbeats 1000000 in
/-- The loop over a group's batches: the tile buffer gets their tiles. -/
theorem batches (k1 : Fin k0_t1_loop.trips) (a10 : BitVec 32) (f : Buf (Elt F) (tM.view.loc (c : Thread nD τ))) :
    iprop(tP c f ∗ dmaAt c XA YA (i 0).val (8 * k1.val))
      ⊢ wp frame (wpE (defs₀ (F := F)) 𝒱₀ (c : Thread nD τ) none) Set.univ
        (Scf.Loop.for k0_t2_loop k0_t2_ok () (k0_t2_body (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 a0 v1 k1 a10))
        (fun _ => iprop(tP c (tM.view.writes (Elt F) f (tileL c XA YA i v1 k1 k0_t2_loop.trips)) ∗ dmaAt c XA YA (i 0).val (8 * k1.val + k0_t2_loop.trips))) := by
  have hloop := Scf.wp_for frame (wpE (defs₀ (F := F)) 𝒱₀ (c : Thread nD τ) none) Set.univ k0_t2_loop.lb k0_t2_loop.ub k0_t2_loop.st k0_t2_ok ()
    (k0_t2_body (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 a0 v1 k1 a10)
    (fun k _ => iprop(tP c (tM.view.writes (Elt F) f (tileL c XA YA i v1 k1 k)) ∗ dmaAt c XA YA (i 0).val (8 * k1.val + k)))
    (fun k _ => batchStep c XA YA i arg3 harg3 a0 v1 k1 a10 f k)
    (Q := fun _ => iprop(tP c (tM.view.writes (Elt F) f (tileL c XA YA i v1 k1 k0_t2_loop.trips)) ∗ dmaAt c XA YA (i 0).val (8 * k1.val + k0_t2_loop.trips)))
  refine BIBase.Entails.trans ?_ hloop
  iintro ⟨HT, HD⟩
  isplitl [HT HD]
  · isplitl [HT]; · iexact HT
    iexact HD
  iintro %_ H
  iexact H

/-- The flush loop of a group: the tile buffer's batches copied, transposed, into their columns of the skewed array. -/
theorem flushes (k1 : Fin k0_t1_loop.trips) (X : Buf (Elt F) (tM.view.loc (c : Thread nD τ))) (f : Buf (Elt F) (sM.view.loc (c : Thread nD τ))) :
    iprop(tP c X ∗ sP c f)
      ⊢ wp frame (wpE (defs₀ (F := F)) 𝒱₀ (c : Thread nD τ) none) Set.univ
        (Scf.Loop.for k0_t3_loop k0_t3_ok () (k0_t3_body (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 k1))
        (fun _ => iprop(tP c X ∗ sP c (sM.view.writes (Elt F) f (flushL k1 (tM.view.read (Elt F) X) k0_t3_loop.trips)))) := by
  have hstep : ∀ (k : Fin k0_t3_loop.trips) (acc : Unit),
      iprop(tP c X ∗ sP c (sM.view.writes (Elt F) f (flushL k1 (tM.view.read (Elt F) X) k.val)))
        ⊢ wp frame (wpE (defs₀ (F := F)) 𝒱₀ (c : Thread nD τ) none) Set.univ (k0_t3_body (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 k1 k acc)
          (fun _ => iprop(tP c X ∗ sP c (sM.view.writes (Elt F) f (flushL k1 (tM.view.read (Elt F) X) (k.val + 1))))) := by
    intro k _
    rw [flushL_succ, View.writes_append]
    iintro ⟨HT, HS⟩
    sl_unfold [k0_t3_body]
    sl_exec
    sl_step
    isplitl [HT]; · iexact HT
    iexact HS
  have hloop := Scf.wp_for frame (wpE (defs₀ (F := F)) 𝒱₀ (c : Thread nD τ) none) Set.univ k0_t3_loop.lb k0_t3_loop.ub k0_t3_loop.st k0_t3_ok ()
    (k0_t3_body (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 k1)
    (fun k _ => iprop(tP c X ∗ sP c (sM.view.writes (Elt F) f (flushL k1 (tM.view.read (Elt F) X) k)))) hstep
    (Q := fun _ => iprop(tP c X ∗ sP c (sM.view.writes (Elt F) f (flushL k1 (tM.view.read (Elt F) X) k0_t3_loop.trips))))
  refine BIBase.Entails.trans ?_ hloop
  iintro ⟨HT, HS⟩
  isplitl [HT HS]
  · isplitl [HT]; · iexact HT
    iexact HS
  iintro %_ H
  iexact H

/-- One group: its batches, then the flush. -/
theorem group (k1 : Fin k0_t1_loop.trips) (G : Buf (Elt F) (sM.view.loc (c : Thread nD τ))) :
    iprop((∃ f, tP c f) ∗ sP c (sM.view.writes (Elt F) G (skewL c XA YA i v1 k1.val)) ∗ dmaAt c XA YA (i 0).val (8 * k1.val))
      ⊢ wp frame (wpE (defs₀ (F := F)) 𝒱₀ (c : Thread nD τ) none) Set.univ (k0_t1_body (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 a0 v1 k1 ())
        (fun _ => iprop((∃ f, tP c f) ∗ sP c (sM.view.writes (Elt F) G (skewL c XA YA i v1 (k1.val + 1))) ∗ dmaAt c XA YA (i 0).val (8 * (k1.val + 1)))) := by
  unfold k0_t1_body
  dsimp only
  rw [Sem.wp_bind]
  iintro ⟨⟨%f, HT⟩, HS, HD⟩
  iapply (wp_wand_r frame (wpE (defs₀ (F := F)) 𝒱₀ (c : Thread nD τ) none) Set.univ)
  isplitl [HT HD]
  · iapply (batches c XA YA i arg3 harg3 a0 v1 k1 _ f)
    isplitl [HT]; · iexact HT
    iexact HD
  iintro %_ ⟨HT, HD⟩
  dsimp only
  rw [Sem.wp_bind]
  iapply (wp_wand_r frame (wpE (defs₀ (F := F)) 𝒱₀ (c : Thread nD τ) none) Set.univ)
  isplitl [HT HS]
  · iapply (flushes c i arg3 harg3 k1 _ _)
    isplitl [HT]; · iexact HT
    iexact HS
  iintro %_ ⟨HT, HS⟩
  dsimp only
  sl_step
  isplitl [HT]; · iexists _; iexact HT
  isplitl [HS]
  · rw [tileL_read_all, ← View.writes_append, ← skewL_succ]
    iexact HS
  rw [t2_trips]
  iexact HD

/-- The loop over the groups: the skewed array gets all 32 batches'. -/
theorem groups (G : Buf (Elt F) (sM.view.loc (c : Thread nD τ))) :
    iprop((∃ f, tP c f) ∗ sP c G ∗ dmaAt c XA YA (i 0).val 0)
      ⊢ wp frame (wpE (defs₀ (F := F)) 𝒱₀ (c : Thread nD τ) none) Set.univ
        (Scf.Loop.for k0_t1_loop k0_t1_ok () (k0_t1_body (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 a0 v1))
        (fun _ => iprop((∃ f, tP c f) ∗ sP c (sM.view.writes (Elt F) G (skewL c XA YA i v1 k0_t1_loop.trips)) ∗ idleAt c XA YA 32)) := by
  have e : dmaAt c XA YA (i 0).val (8 * Scf.trips k0_t1_loop.lb k0_t1_loop.ub k0_t1_loop.st) = idleAt c XA YA 32 := by
    rw [show Scf.trips k0_t1_loop.lb k0_t1_loop.ub k0_t1_loop.st = 4 from t1_trips]; exact dmaAt_idle c XA YA (by omega)
  have hloop := Scf.wp_for frame (wpE (defs₀ (F := F)) 𝒱₀ (c : Thread nD τ) none) Set.univ k0_t1_loop.lb k0_t1_loop.ub k0_t1_loop.st k0_t1_ok ()
    (k0_t1_body (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 a0 v1)
    (fun k _ => iprop((∃ f, tP c f) ∗ sP c (sM.view.writes (Elt F) G (skewL c XA YA i v1 k)) ∗ dmaAt c XA YA (i 0).val (8 * k)))
    (fun k _ => group c XA YA i arg3 harg3 a0 v1 k G)
    (Q := fun _ => iprop((∃ f, tP c f) ∗ sP c (sM.view.writes (Elt F) G (skewL c XA YA i v1 k0_t1_loop.trips)) ∗ idleAt c XA YA 32))
  refine BIBase.Entails.trans ?_ hloop
  iintro ⟨HT, HS, HD⟩
  isplitl [HT HS HD]
  · isplitl [HT]; · iexact HT
    isplitl [HS]; · iexact HS
    iexact HD
  iintro %_ ⟨HT, HS, HD⟩
  isplitl [HT]; · iexact HT
  isplitl [HS]; · iexact HS
  iapply (entails_of_eq e)
  iexact HD

end Loops
end Cert.KernelIdeal.Sdtw
end
-- ==== Proof.KernelIdeal.Diag.lean ====
/-
  The loop over the anti-diagonals: four sweeps a trip for each of the four groups of eight batches.
-/
module

public import proofs.«01_k».proof.Proof.KernelIdeal.Loops

@[expose] public section

set_option maxRecDepth 16384

noncomputable section

namespace Cert.KernelIdeal.Sdtw

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

open Idealize.ShloMosaic.ValueIdx

/-- Sweeps `4 k + 1` to `4 k + 4` of one group. -/
def four (S : S512x32x512.Idx → Elt F .f32) (o : Fin 25) (k : ℕ) (a b : FVec F S8x512 .f32) : FVec F S8x512 .f32 × FVec F S8x512 .f32 :=
  (sweepV (sweepV (sweepV (sweepV a b (skewRow S o (4 * k + 1))) a (skewRow S o (4 * k + 2))) (sweepV a b (skewRow S o (4 * k + 1))) (skewRow S o (4 * k + 3)))
      (sweepV (sweepV a b (skewRow S o (4 * k + 1))) a (skewRow S o (4 * k + 2))) (skewRow S o (4 * k + 4)),
    sweepV (sweepV (sweepV a b (skewRow S o (4 * k + 1))) a (skewRow S o (4 * k + 2))) (sweepV a b (skewRow S o (4 * k + 1))) (skewRow S o (4 * k + 3)))

theorem sweeps_four (S : S512x32x512.Idx → Elt F .f32) (o : Fin 25) (p : FVec F S8x512 .f32 × FVec F S8x512 .f32) (k : ℕ) :
    sweeps S o p (4 * (k + 1)) = four S o k (sweeps S o p (4 * k)).1 (sweeps S o p (4 * k)).2 := rfl

/-- The eight carried vectors. -/
abbrev Acc (F : FTy → Type) : Type := FVec F S8x512 .f32 × FVec F S8x512 .f32 × FVec F S8x512 .f32 × FVec F S8x512 .f32 × FVec F S8x512 .f32 × FVec F S8x512 .f32 × FVec F S8x512 .f32 × FVec F S8x512 .f32

/-! ## Two paired sweeps of one group, as the loop's body spells them -/

section Pairs
variable (a b : FVec F S8x512 .f32) (w1 w2 w3 w4 : Vec F S1x8x512 .f32)

/-- The diagonal two sweeps on, and the one before it. -/
abbrev q1 := sweepV a b w1
abbrev q2 := sweepV (sweepV a b w1) a w2

theorem pair0 (A B : FVec F S8x512 .f32) (hA : A = q2 a b w1 w2) (hB : B = q1 a b w1) :
    k0_pay76 A (k0_pay70 A) (k0_pay71 A) (k0_pay72 B) (k0_pay73 B) w3 w4 = sweepV (sweepV (q2 a b w1 w2) (q1 a b w1) w3) (q2 a b w1 w2) w4
    ∧ k0_pay75 A (k0_pay70 A) (k0_pay72 B) w3 = sweepV (q2 a b w1 w2) (q1 a b w1) w3 := by
  subst hA hB; exact ⟨second0' .., first0' ..⟩
theorem pair1 (A B : FVec F S8x512 .f32) (hA : A = q2 a b w1 w2) (hB : B = q1 a b w1) :
    k0_pay85 (k0_pay79 w4) (k0_pay82 B A 1#32 w3) (k0_pay83 B A 1#32 w3) (k0_pay84 B A 1#32 w3) = sweepV (sweepV (q2 a b w1 w2) (q1 a b w1) w3) (q2 a b w1 w2) w4
    ∧ k0_pay80 B A 1#32 w3 = sweepV (q2 a b w1 w2) (q1 a b w1) w3 := by
  subst hA hB; exact ⟨second1' .., first1' ..⟩
theorem pair2 (A B : FVec F S8x512 .f32) (hA : A = q2 a b w1 w2) (hB : B = q1 a b w1) :
    k0_pay92 (k0_pay86 A) (k0_pay88 w4) (k0_pay89 B A w3) (k0_pay90 B A w3) (k0_pay91 B A w3) = sweepV (sweepV (q2 a b w1 w2) (q1 a b w1) w3) (q2 a b w1 w2) w4
    ∧ k0_pay89 B A w3 = sweepV (q2 a b w1 w2) (q1 a b w1) w3 := by
  subst hA hB; exact ⟨second2' .., first2' ..⟩
theorem pair3 (A B : FVec F S8x512 .f32) (hA : A = q2 a b w1 w2) (hB : B = q1 a b w1) :
    k0_pay118 (k0_pay93 A) (k0_pay97 w4) (k0_pay98 w3) (k0_pay99 B A w3) (k0_pay100 B A) (k0_pay101 B A) (k0_pay102 B A)
      = sweepV (sweepV (q2 a b w1 w2) (q1 a b w1) w3) (q2 a b w1 w2) w4
    ∧ k0_pay99 B A w3 = sweepV (q2 a b w1 w2) (q1 a b w1) w3 := by
  subst hA hB; exact ⟨second3' .., first3' ..⟩

end Pairs

section Diag
variable (c : Dev nD) (X : Buf (Elt F) (sM.view.loc (c : Thread nD τ)))
  (i : grid0.Coords) (arg3 : Memref sig .tc .vmem S32x1 .f32) (harg3 : arg3.IsWhole) (v19 : IVec S8x512 1) (v23 v27 : FVec F S8x512 .f32)

abbrev sV : S512x32x512.Idx → Elt F .f32 := sM.view.read (Elt F) X

set_option maxHeartbeats 4000000 in
theorem diagTrip (k : Fin k0_t4_loop.trips) (a0 a1 a2 a3 b0 b1 b2 b3 : FVec F S8x512 .f32) :
    sP c X ⊢ wp frame (wpE (defs₀ (F := F)) 𝒱₀ (c : Thread nD τ) none) Set.univ
      (k0_t4_body (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 v19 v23 v27 k (a0, a1, a2, a3, b0, b1, b2, b3))
      (fun r => iprop(sP c X ∗ ⌜r = ((four (sV c X) 0 k.val a0 b0).1, (four (sV c X) 8 k.val a1 b1).1, (four (sV c X) 16 k.val a2 b2).1, (four (sV c X) 24 k.val a3 b3).1,
        (four (sV c X) 0 k.val a0 b0).2, (four (sV c X) 8 k.val a1 b1).2, (four (sV c X) 16 k.val a2 b2).2, (four (sV c X) 24 k.val a3 b3).2)⌝)) := by
  have h00 : VecWindow.window (s := S512x32x512) (sV c X) (k0_off21 k) S1x8x512.size (k0_off21_inb k) = skewRow (sV c X) 0 (4 * k.val + 1) := load_row _ _ 0 (o21 k)
  have h01 : VecWindow.window (s := S512x32x512) (sV c X) (k0_off22 k 1#32) S1x8x512.size (k0_off22_inb k 0) = skewRow (sV c X) 0 (4 * k.val + 2) := load_row _ _ 0 (o22 k)
  have h02 : VecWindow.window (s := S512x32x512) (sV c X) (k0_off22 k 2#32) S1x8x512.size (k0_off22_inb k 1) = skewRow (sV c X) 0 (4 * k.val + 3) := load_row _ _ 0 (o22' k)
  have h03 : VecWindow.window (s := S512x32x512) (sV c X) (k0_off29 k) S1x8x512.size (k0_off29_inb k) = skewRow (sV c X) 0 (4 * k.val + 4) := load_row _ _ 0 (o29 k)
  have h10 : VecWindow.window (s := S512x32x512) (sV c X) (k0_off23 k) S1x8x512.size (k0_off23_inb k) = skewRow (sV c X) 8 (4 * k.val + 1) := load_row _ _ 8 (o23 k)
  have h11 : VecWindow.window (s := S512x32x512) (sV c X) (k0_off24 k 1#32) S1x8x512.size (k0_off24_inb k 0) = skewRow (sV c X) 8 (4 * k.val + 2) := load_row _ _ 8 (o24 k)
  have h12 : VecWindow.window (s := S512x32x512) (sV c X) (k0_off24 k 2#32) S1x8x512.size (k0_off24_inb k 1) = skewRow (sV c X) 8 (4 * k.val + 3) := load_row _ _ 8 (o24' k)
  have h13 : VecWindow.window (s := S512x32x512) (sV c X) (k0_off30 k) S1x8x512.size (k0_off30_inb k) = skewRow (sV c X) 8 (4 * k.val + 4) := load_row _ _ 8 (o30 k)
  have h20 : VecWindow.window (s := S512x32x512) (sV c X) (k0_off25 k) S1x8x512.size (k0_off25_inb k) = skewRow (sV c X) 16 (4 * k.val + 1) := load_row _ _ 16 (o25 k)
  have h21 : VecWindow.window (s := S512x32x512) (sV c X) (k0_off26 k 1#32) S1x8x512.size (k0_off26_inb k 0) = skewRow (sV c X) 16 (4 * k.val + 2) := load_row _ _ 16 (o26 k)
  have h22 : VecWindow.window (s := S512x32x512) (sV c X) (k0_off26 k 2#32) S1x8x512.size (k0_off26_inb k 1) = skewRow (sV c X) 16 (4 * k.val + 3) := load_row _ _ 16 (o26' k)
  have h23 : VecWindow.window (s := S512x32x512) (sV c X) (k0_off31 k) S1x8x512.size (k0_off31_inb k) = skewRow (sV c X) 16 (4 * k.val + 4) := load_row _ _ 16 (o31 k)
  have h30 : VecWindow.window (s := S512x32x512) (sV c X) (k0_off27 k) S1x8x512.size (k0_off27_inb k) = skewRow (sV c X) 24 (4 * k.val + 1) := load_row _ _ 24 (o27 k)
  have h31 : VecWindow.window (s := S512x32x512) (sV c X) (k0_off28 k 1#32) S1x8x512.size (k0_off28_inb k 0) = skewRow (sV c X) 24 (4 * k.val + 2) := load_row _ _ 24 (o28 k)
  have h32 : VecWindow.window (s := S512x32x512) (sV c X) (k0_off28 k 2#32) S1x8x512.size (k0_off28_inb k 1) = skewRow (sV c X) 24 (4 * k.val + 3) := load_row _ _ 24 (o28' k)
  have h33 : VecWindow.window (s := S512x32x512) (sV c X) (k0_off32 k) S1x8x512.size (k0_off32_inb k) = skewRow (sV c X) 24 (4 * k.val + 4) := load_row _ _ 24 (o32 k)
  have p0 := pair0 a0 b0 (VecWindow.window (s := S512x32x512) (sV c X) (k0_off21 k) S1x8x512.size (k0_off21_inb k)) (VecWindow.window (s := S512x32x512) (sV c X) (k0_off22 k 1#32) S1x8x512.size (k0_off22_inb k 0)) (VecWindow.window (s := S512x32x512) (sV c X) (k0_off22 k 2#32) S1x8x512.size (k0_off22_inb k 1)) (VecWindow.window (s := S512x32x512) (sV c X) (k0_off29 k) S1x8x512.size (k0_off29_inb k)) _ _ (second0 a0 b0 (VecWindow.window (s := S512x32x512) (sV c X) (k0_off21 k) S1x8x512.size (k0_off21_inb k)) (VecWindow.window (s := S512x32x512) (sV c X) (k0_off22 k 1#32) S1x8x512.size (k0_off22_inb k 0))) (first0 a0 b0 (VecWindow.window (s := S512x32x512) (sV c X) (k0_off21 k) S1x8x512.size (k0_off21_inb k)))
  rw [h00, h01, h02, h03] at p0
  have p1 := pair1 a1 b1 (VecWindow.window (s := S512x32x512) (sV c X) (k0_off23 k) S1x8x512.size (k0_off23_inb k)) (VecWindow.window (s := S512x32x512) (sV c X) (k0_off24 k 1#32) S1x8x512.size (k0_off24_inb k 0)) (VecWindow.window (s := S512x32x512) (sV c X) (k0_off24 k 2#32) S1x8x512.size (k0_off24_inb k 1)) (VecWindow.window (s := S512x32x512) (sV c X) (k0_off30 k) S1x8x512.size (k0_off30_inb k)) _ _ (second1 a1 b1 (VecWindow.window (s := S512x32x512) (sV c X) (k0_off23 k) S1x8x512.size (k0_off23_inb k)) (VecWindow.window (s := S512x32x512) (sV c X) (k0_off24 k 1#32) S1x8x512.size (k0_off24_inb k 0))) (first1 a1 b1 (VecWindow.window (s := S512x32x512) (sV c X) (k0_off23 k) S1x8x512.size (k0_off23_inb k)))
  rw [h10, h11, h12, h13] at p1
  have p2 := pair2 a2 b2 (VecWindow.window (s := S512x32x512) (sV c X) (k0_off25 k) S1x8x512.size (k0_off25_inb k)) (VecWindow.window (s := S512x32x512) (sV c X) (k0_off26 k 1#32) S1x8x512.size (k0_off26_inb k 0)) (VecWindow.window (s := S512x32x512) (sV c X) (k0_off26 k 2#32) S1x8x512.size (k0_off26_inb k 1)) (VecWindow.window (s := S512x32x512) (sV c X) (k0_off31 k) S1x8x512.size (k0_off31_inb k)) _ _ (second2 a2 b2 (VecWindow.window (s := S512x32x512) (sV c X) (k0_off25 k) S1x8x512.size (k0_off25_inb k)) (VecWindow.window (s := S512x32x512) (sV c X) (k0_off26 k 1#32) S1x8x512.size (k0_off26_inb k 0))) (first2 a2 b2 (VecWindow.window (s := S512x32x512) (sV c X) (k0_off25 k) S1x8x512.size (k0_off25_inb k)))
  rw [h20, h21, h22, h23] at p2
  have p3 := pair3 a3 b3 (VecWindow.window (s := S512x32x512) (sV c X) (k0_off27 k) S1x8x512.size (k0_off27_inb k)) (VecWindow.window (s := S512x32x512) (sV c X) (k0_off28 k 1#32) S1x8x512.size (k0_off28_inb k 0)) (VecWindow.window (s := S512x32x512) (sV c X) (k0_off28 k 2#32) S1x8x512.size (k0_off28_inb k 1)) (VecWindow.window (s := S512x32x512) (sV c X) (k0_off32 k) S1x8x512.size (k0_off32_inb k)) _ _ (second3 a3 b3 (VecWindow.window (s := S512x32x512) (sV c X) (k0_off27 k) S1x8x512.size (k0_off27_inb k)) (VecWindow.window (s := S512x32x512) (sV c X) (k0_off28 k 1#32) S1x8x512.size (k0_off28_inb k 0))) (first3 a3 b3 (VecWindow.window (s := S512x32x512) (sV c X) (k0_off27 k) S1x8x512.size (k0_off27_inb k)))
  rw [h30, h31, h32, h33] at p3
  iintro HS
  sl_unfold [k0_t4_body]
  sl_exec
  sl_step
  isplitl [HS]; · iexact HS
  ipureintro
  simp only [Prod.mk.injEq]
  exact ⟨p0.1, p1.1, p2.1, p3.1, p0.2, p1.2, p2.2, p3.2⟩

/-- What the loop carries before trip `k`. -/
def carried (S : S512x32x512.Idx → Elt F .f32) (init : Acc F) (k : ℕ) : Acc F :=
  ((sweeps S 0 (init.1, init.2.2.2.2.1) (4 * k)).1, (sweeps S 8 (init.2.1, init.2.2.2.2.2.1) (4 * k)).1,
    (sweeps S 16 (init.2.2.1, init.2.2.2.2.2.2.1) (4 * k)).1, (sweeps S 24 (init.2.2.2.1, init.2.2.2.2.2.2.2) (4 * k)).1,
    (sweeps S 0 (init.1, init.2.2.2.2.1) (4 * k)).2, (sweeps S 8 (init.2.1, init.2.2.2.2.2.1) (4 * k)).2,
    (sweeps S 16 (init.2.2.1, init.2.2.2.2.2.2.1) (4 * k)).2, (sweeps S 24 (init.2.2.2.1, init.2.2.2.2.2.2.2) (4 * k)).2)

theorem carried_zero (S : S512x32x512.Idx → Elt F .f32) (init : Acc F) : carried S init 0 = init := rfl

/-- The loop over the anti-diagonals, by what it carries. -/
@[reducible] def diagLoop (init : Acc F) : LoopInvTy_k0_t4 (F := F) Unit ℕ (UU nD τ) ℕ 𝒱₀ c none Set.univ i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 v19 v23 v27 init where
  inv k acc := iprop(sP c X ∗ ⌜acc = carried (sV c X) init k⌝)
  step k acc := by
    iintro ⟨HS, %h⟩
    subst h
    iapply (wp_wand_r frame (wpE (defs₀ (F := F)) 𝒱₀ (c : Thread nD τ) none) Set.univ)
    isplitl [HS]
    · iapply (diagTrip c X i arg3 harg3 v19 v23 v27 k _ _ _ _ _ _ _ _)
      iexact HS
    iintro %r ⟨HS, %h⟩
    isplitl [HS]; · iexact HS
    ipureintro
    exact h

/-- The first diagonal of a group: the corner's distance on lane 0, the large constant elsewhere; before it, the large
    constant. -/
def diag0 (S : S512x32x512.Idx → Elt F .f32) (o : Fin 25) : FVec F S8x512 .f32 × FVec F S8x512 .f32 := (k0_pay110 (skewRow S o 0), k0_pay114)

/-- What the second part hands on: every group's two latest diagonals but the first group's, whose sweep 1021 it has done. -/
def fiveOut (S : S512x32x512.Idx → Elt F .f32) (z : FVec F S8x512 .f32) :
    (Σ' (v41_0 : FVec F S8x512 .f32) (v41_1 : FVec F S8x512 .f32) (v41_2 : FVec F S8x512 .f32) (v41_3 : FVec F S8x512 .f32) (v41_5 : FVec F S8x512 .f32) (v41_6 : FVec F S8x512 .f32) (v41_7 : FVec F S8x512 .f32) (v42 : BitVec 32), FVec F S8x512 .f32) :=
  ⟨(sweeps S 0 (diag0 S 0) 1020).1, (sweeps S 8 (diag0 S 8) 1020).1, (sweeps S 16 (diag0 S 16) 1020).1, (sweeps S 24 (diag0 S 24) 1020).1,
    (sweeps S 8 (diag0 S 8) 1020).2, (sweeps S 16 (diag0 S 16) 1020).2, (sweeps S 24 (diag0 S 24) 1020).2, Scalar.andi 1021#32 511#32, z⟩

/-- The second part of the body: the later groups' first diagonals, the loop, the first group's sweep 1021. -/
theorem part18 : sP c X ⊢ wp frame (wpE (defs₀ (F := F)) 𝒱₀ (c : Thread nD τ) none) Set.univ
      (k0_part18 (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 k0_pay109 (diag0 (sV c X) 0).1 (diag0 (sV c X) 8).1)
      (fun r => iprop(sP c X ∗ ⌜r = fiveOut (sV c X) (sweeps (sV c X) 0 (diag0 (sV c X) 0) 1021).1⌝)) := by
  let L := diagLoop c X i arg3 harg3 k0_pay109 (diag0 (sV c X) 0).1 (diag0 (sV c X) 8).1
    (((diag0 (sV c X) 0).1, (diag0 (sV c X) 8).1, k0_pay112 k0_pay109 (sM.view.readAt (Elt F) (Rect.unit (s := S512x32x512) ![0, 16, 0] S1x8x512.size inb_S512x32x512_S1x8x512_0_16_0).toLoadRect X),
      k0_pay113 k0_pay109 (sM.view.readAt (Elt F) (Rect.unit (s := S512x32x512) ![0, 24, 0] S1x8x512.size inb_S512x32x512_S1x8x512_0_24_0).toLoadRect X), k0_pay114 (F := F), k0_pay115 (F := F), k0_pay116 (F := F), k0_pay117 (F := F)))
  rw [k0_part18_eq_skeleton]
  iintro HS
  sl_unfold [k0_part18_skel]
  sl_exec
  sl_step
  isplitl [HS]; · iexact HS
  ipureintro
  have h16 : sM.view.readAt (Elt F) (Rect.unit (s := S512x32x512) ![0, 16, 0] S1x8x512.size inb_S512x32x512_S1x8x512_0_16_0).toLoadRect X = skewRow (sV c X) 16 0 :=
    load_row (sV c X) inb_S512x32x512_S1x8x512_0_16_0 (s := 0) 16 rfl
  have h24 : sM.view.readAt (Elt F) (Rect.unit (s := S512x32x512) ![0, 24, 0] S1x8x512.size inb_S512x32x512_S1x8x512_0_24_0).toLoadRect X = skewRow (sV c X) 24 0 :=
    load_row (sV c X) inb_S512x32x512_S1x8x512_0_24_0 (s := 0) 24 rfl
  have h1021 : ∀ h, sM.view.readAt (Elt F) (Rect.unit (s := S512x32x512) ![509, 0, 0] S1x8x512.size h).toLoadRect X = skewRow (sV c X) 0 1021 :=
    fun h => load_row (sV c X) h (s := 1021) 0 rfl
  rw [h16, h24, show Scf.trips k0_t4_loop.lb k0_t4_loop.ub k0_t4_loop.st = 255 from t4_trips, show 4 * 255 = 1020 from rfl]
  have last : k0_pay119 (sweeps (sV c X) 0 (diag0 (sV c X) 0) 1020).1 (sweeps (sV c X) 0 (diag0 (sV c X) 0) 1020).2
      (sM.view.readAt (Elt F) (Rect.unit (s := S512x32x512) ![509, 0, 0] S1x8x512.size (by decide)).toLoadRect X) =
      (sweeps (sV c X) 0 (diag0 (sV c X) 0) 1021).1 := by
    rw [h1021, tail0]; rfl
  clear h1021
  exact congrArg (fiveOut (sV c X)) last

end Diag
end Cert.KernelIdeal.Sdtw
end
-- ==== Proof.KernelIdeal.Body.lean ====
/-
  The whole body at one grid point: the first transfers, the loops, the last two sweeps and the four stores.
-/
module

public import proofs.«01_k».proof.Proof.KernelIdeal.Diag

@[expose] public section

set_option maxRecDepth 16384

noncomputable section

namespace Cert.KernelIdeal.Sdtw

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

open Idealize.ShloMosaic.ValueIdx

section Body
variable (c : Dev nD) (XA : Buf (Elt F) (xM.view.loc (c : Thread nD τ))) (YA : Buf (Elt F) (yM.view.loc (c : Thread nD τ)))
  (i : grid0.Coords) (arg3 : Memref sig .tc .vmem S32x1 .f32) (harg3 : arg3.IsWhole)

/-- The lanes' numbers, as the body carries them. -/
abbrev lanes : IVec S512x128 32 := iota .tc S512x128 32 [1] iota_S512x128_d1_w32

/-- The skewed costs of point `i`. -/
abbrev skew : S512x32x512.Idx → Elt F .f32 := skewFn c XA YA i lanes

/-- The first two groups' first diagonals, from the rows loaded. -/
theorem firstOut (X : Buf (Elt F) (sM.view.loc (c : Thread nD τ))) :
    (⟨k0_pay109, k0_pay110 (sM.view.readAt (Elt F) (Rect.unit (s := S512x32x512) ![0, 0, 0] S1x8x512.size inb_S512x32x512_S1x8x512_0_0_0).toLoadRect X),
      k0_pay111 (sM.view.readAt (Elt F) (Rect.unit (s := S512x32x512) ![0, 8, 0] S1x8x512.size inb_S512x32x512_S1x8x512_0_8_0).toLoadRect X)⟩ :
      (Σ' (v19 : IVec S8x512 1) (v23 : FVec F S8x512 .f32), FVec F S8x512 .f32))
      = ⟨k0_pay109, (diag0 (sV c X) 0).1, (diag0 (sV c X) 8).1⟩ := by
  have h0 : sM.view.readAt (Elt F) (Rect.unit (s := S512x32x512) ![0, 0, 0] S1x8x512.size inb_S512x32x512_S1x8x512_0_0_0).toLoadRect X = skewRow (sV c X) 0 0 :=
    load_row (sV c X) inb_S512x32x512_S1x8x512_0_0_0 (s := 0) 0 rfl
  have h8 : sM.view.readAt (Elt F) (Rect.unit (s := S512x32x512) ![0, 8, 0] S1x8x512.size inb_S512x32x512_S1x8x512_0_8_0).toLoadRect X = skewRow (sV c X) 8 0 :=
    load_row (sV c X) inb_S512x32x512_S1x8x512_0_8_0 (s := 0) 8 rfl
  rw [h0, h8]
  rfl

/-- The first part of the body: the first transfers, the skewed costs of every group, the first two groups' first
    diagonals. -/
theorem part17 : iprop((∃ f, tP c f) ∗ (∃ f, sP c f) ∗ idleAt c XA YA 0) ⊢ wp frame (wpE (defs₀ (F := F)) 𝒱₀ (c : Thread nD τ) none) Set.univ
      (k0_part17 (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5)
      (fun r => iprop(∃ X, ⌜sV c X = skew c XA YA i⌝ ∗ ⌜r = ⟨k0_pay109, (diag0 (sV c X) 0).1, (diag0 (sV c X) 8).1⟩⌝ ∗ (∃ f, tP c f) ∗ sP c X ∗ idleAt c XA YA 32)) := by
  rw [k0_part17_eq_skeleton]
  have hi := c0_lt i
  rw [show idleAt c XA YA 0 = idleAt c XA YA 0 from rfl]
  conv_lhs => unfold idleAt
  rw [show Ring.sl 2 0 = 0 from rfl, show Ring.sl 2 (0 + 1) = 1 from rfl, univ_split (xHomeP c XA) (Ring.bk 64 (32 * (i 0).val)), univ_split (yHomeP c YA) (Ring.bk 64 (32 * (i 0).val))]
  iintro ⟨HT, ⟨%G, HS⟩, ⟨Hx0, Hxr⟩, ⟨Hy0, Hyr⟩, ⟨%fx, HSx⟩, ⟨%fy, HSy⟩, HCx, HCy, ⟨%gx, HGx⟩, ⟨%gy, HGy⟩, HDx, HDy, ⟨%W, HW⟩⟩
  sl_unfold [k0_part17_skel]
  sl_exec
  rw [Sem.wp_bind]
  iapply (wp_wand_r frame (wpE (defs₀ (F := F)) 𝒱₀ (c : Thread nD τ) none) Set.univ)
  isplitl [HT HS Hxr Hyr HCx HCy HGx HGy HDx HDy HW]
  · iapply (groups c XA YA i arg3 harg3 (BitVec.ofNat 32 (i 0).val) lanes G)
    isplitl [HT]; · iexact HT
    isplitl [HS]; · iexact HS
    iapply (entails_of_eq (dmaAt_live c XA YA (p := (i 0).val) (b := 0) (by omega)).symm)
    unfold liveAt
    isplitl [Hxr]; · iexact Hxr
    isplitl [Hyr]; · iexact Hyr
    isplitl [HCx]; · iexists fx; iexact HCx
    isplitl [HCy]; · iexists fy; iexact HCy
    isplitl [HGx]; · iexists gx; iexact HGx
    isplitl [HGy]; · iexists gy; iexact HGy
    isplitl [HDx]; · iexact HDx
    isplitl [HDy]; · iexact HDy
    iexists W; iexact HW
  iintro %_ ⟨HT, HS, HI⟩
  dsimp only
  have hX := skewL_all c XA YA i lanes G
  generalize sM.view.writes (Elt F) G (skewL c XA YA i lanes k0_t1_loop.trips) = X at hX ⊢
  sl_exec
  sl_step
  iexists X
  isplitr
  · ipureintro; exact hX
  isplitr
  · ipureintro; exact firstOut c X
  isplitl [HT]; · iexact HT
  isplitl [HS]; · iexact HS
  iexact HI

/-- Sweep 1021 of the later groups. -/
theorem part19 (X : Buf (Elt F) (sM.view.loc (c : Thread nD τ))) (a1 a2 a3 b1 b2 b3 : FVec F S8x512 .f32) (v42 : BitVec 32) :
    sP c X ⊢ wp frame (wpE (defs₀ (F := F)) 𝒱₀ (c : Thread nD τ) none) Set.univ
      (k0_part19 (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 a1 a2 a3 b1 b2 b3 v42)
      (fun r => iprop(sP c X ∗ ⌜r = ⟨sweepV a1 b1 (skewRow (sV c X) 8 1021), sweepV a2 b2 (skewRow (sV c X) 16 1021),
        k0_pay122 (skewRow (sV c X) 24 1021), k0_pay124 b3, k0_pay125 a3 b3, k0_pay126 a3 b3⟩⌝)) := by
  have e8 := load_row (sV c X) (k0_off34_inb 0) (s := 1021) 8 o34
  have e16 := load_row (sV c X) (k0_off35_inb 0) (s := 1021) 16 o35
  have e24 := load_row (sV c X) (k0_off36_inb 0) (s := 1021) 24 o36
  rw [k0_part19_eq_skeleton]
  iintro HS
  sl_unfold [k0_part19_skel]
  sl_exec
  sl_step
  isplitl [HS]; · iexact HS
  ipureintro
  rfl

/-- Sweep 1021 of the last group and the loads of sweep 1022 of the first two. -/
theorem part20 (X : Buf (Elt F) (sM.view.loc (c : Thread nD τ))) (a0 a1 a3 r0 r1 b3 : FVec F S8x512 .f32) (w3 : Vec F S1x8x512 .f32) :
    sP c X ⊢ wp frame (wpE (defs₀ (F := F)) 𝒱₀ (c : Thread nD τ) none) Set.univ
      (k0_part20 (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 a0 a1 a3 r0 r1 (k0_pay122 w3) (k0_pay124 b3) (k0_pay125 a3 b3) (k0_pay126 a3 b3))
      (fun r => iprop(sP c X ∗ ⌜r = ⟨sweepV a3 b3 w3, Scalar.andi 1022#32 511#32, sweepV r0 a0 (skewRow (sV c X) 0 1022),
        k0_pay129 (skewRow (sV c X) 8 1022), k0_pay132 a1 r1, k0_pay133 a1 r1⟩⌝)) := by
  have e0 := load_row (sV c X) (k0_off33_inb 1) (s := 1022) 0 o33'
  have e8 := load_row (sV c X) (k0_off34_inb 1) (s := 1022) 8 o34'
  rw [k0_part20_eq_skeleton]
  iintro HS
  sl_unfold [k0_part20_skel]
  sl_exec
  sl_step
  isplitl [HS]; · iexact HS
  ipureintro
  rw [tail3, tail0']
  rfl

/-- Sweep 1022 of the later groups. -/
theorem part21 (X : Buf (Elt F) (sM.view.loc (c : Thread nD τ))) (a1 a2 a3 r1 r2 r3 v143 : FVec F S8x512 .f32) (w1 : Vec F S1x8x512 .f32) (v123 : BitVec 32) :
    sP c X ⊢ wp frame (wpE (defs₀ (F := F)) 𝒱₀ (c : Thread nD τ) none) Set.univ
      (k0_part21 (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5 a2 a3 r2 r3 v123 v143 (k0_pay129 w1) (k0_pay132 a1 r1) (k0_pay133 a1 r1))
      (fun r => iprop(sP c X ∗ ⌜r = ⟨sweepV r1 a1 w1, sweepV r2 a2 (skewRow (sV c X) 16 1022), sweepV r3 a3 (skewRow (sV c X) 24 1022), k0_pay137 v143⟩⌝)) := by
  have e16 := load_row (sV c X) (k0_off35_inb 1) (s := 1022) 16 o35'
  have e24 := load_row (sV c X) (k0_off36_inb 1) (s := 1022) 24 o36'
  rw [k0_part21_eq_skeleton]
  iintro HS
  sl_unfold [k0_part21_skel]
  sl_exec
  sl_step
  isplitl [HS]; · iexact HS
  ipureintro
  rw [tail1', tail2', tail3']
/-- The last anti-diagonal of the group at offset `o`. -/
abbrev lastDiag (S : S512x32x512.Idx → Elt F .f32) (o : Fin 25) : FVec F S8x512 .f32 := (sweeps S o (diag0 S o) 1022).1

/-- The four stores of the output block, the latest first: group `o`'s eight results. -/
def outL (S : S512x32x512.Idx → Elt F .f32) : List (View.Piece (Elt F) S32x1 .f32) :=
  [⟨Rect.unit (s := S32x1) ![24, 0] S8x1.size inb_S32x1_S8x1_24_0, k0_pay137 (lastDiag S 24)⟩,
    ⟨Rect.unit (s := S32x1) ![16, 0] S8x1.size inb_S32x1_S8x1_16_0, k0_pay137 (lastDiag S 16)⟩,
    ⟨Rect.unit (s := S32x1) ![8, 0] S8x1.size inb_S32x1_S8x1_8_0, k0_pay137 (lastDiag S 8)⟩,
    ⟨Rect.unit (s := S32x1) ![0, 0] S8x1.size inb_S32x1_S8x1_0_0, k0_pay137 (lastDiag S 0)⟩]

/-- The whole body at one grid point. -/
theorem bodyRun (f3 : Buf (Elt F) (arg3.view.loc (c : Thread nD τ))) :
    iprop((∃ f, tP c f) ∗ (∃ f, sP c f) ∗ idleAt c XA YA 0 ∗ arg3.view.loc (c : Thread nD τ) ↦[arg3.view.set]{fullShare} f3)
      ⊢ wp frame (wpE (defs₀ (F := F)) 𝒱₀ (c : Thread nD τ) none) Set.univ (cc0__sdtw_kernel (F := F) i xM (Memref.isWhole_whole _) yM (Memref.isWhole_whole _) arg3 harg3 sM (Memref.isWhole_whole _) tM (Memref.isWhole_whole _)
          xbM (Memref.isWhole_whole _) ybM (Memref.isWhole_whole _) cc0_scratch4 cc0_scratch5)
      (fun _ => iprop((∃ f, tP c f) ∗ (∃ f, sP c f) ∗ idleAt c XA YA 32 ∗ arg3.view.loc (c : Thread nD τ) ↦[arg3.view.set]{fullShare}
        arg3.view.writes (Elt F) f3 (outL (skew c XA YA i)))) := by
  rw [cc0__sdtw_kernel_eq_skeleton]
  unfold cc0__sdtw_kernel_skel
  rw [Sem.wp_bind]
  iintro ⟨HT, HS, HI, H3⟩
  iapply (wp_wand_r frame (wpE (defs₀ (F := F)) 𝒱₀ (c : Thread nD τ) none) Set.univ)
  isplitl [HT HS HI]
  · iapply (part17 c XA YA i arg3 harg3)
    isplitl [HT]; · iexact HT
    isplitl [HS]; · iexact HS
    iexact HI
  iintro %r ⟨%X, %hX, %hr, HT, HS, HI⟩
  subst hr
  dsimp only
  rw [Sem.wp_bind]
  iapply (wp_wand_r frame (wpE (defs₀ (F := F)) 𝒱₀ (c : Thread nD τ) none) Set.univ)
  isplitl [HS]
  · iapply (part18 c X i arg3 harg3)
    iexact HS
  iintro %r ⟨HS, %hr⟩
  subst hr
  dsimp only [fiveOut]
  rw [Sem.wp_bind]
  iapply (wp_wand_r frame (wpE (defs₀ (F := F)) 𝒱₀ (c : Thread nD τ) none) Set.univ)
  isplitl [HS]
  · iapply (part19 c i arg3 harg3 X)
    iexact HS
  iintro %r ⟨HS, %hr⟩
  subst hr
  dsimp only
  rw [Sem.wp_bind]
  iapply (wp_wand_r frame (wpE (defs₀ (F := F)) 𝒱₀ (c : Thread nD τ) none) Set.univ)
  isplitl [HS]
  · iapply (part20 c i arg3 harg3 X)
    iexact HS
  iintro %r ⟨HS, %hr⟩
  subst hr
  dsimp only
  rw [Sem.wp_bind]
  iapply (wp_wand_r frame (wpE (defs₀ (F := F)) 𝒱₀ (c : Thread nD τ) none) Set.univ)
  isplitl [HS]
  · iapply (part21 c i arg3 harg3 X)
    iexact HS
  iintro %r ⟨HS, %hr⟩
  subst hr
  dsimp only
  sl_exec
  sl_step
  have e : iprop(arg3.view.loc (c : Thread nD τ) ↦[arg3.view.set]{fullShare} arg3.view.writes (Elt F) f3 (outL (sV c X)))
      = (iprop(arg3.view.loc (c : Thread nD τ) ↦[arg3.view.set]{fullShare} arg3.view.writes (Elt F) f3 (outL (skew c XA YA i))) : sProp 𝕄) := by rw [hX]
  isplitl [HT]; · iexact HT
  isplitl [HS]; · iexists X; iexact HS
  isplitl [HI]; · iexact HI
  iapply (entails_of_eq e)
  iexact H3

end Body
end Cert.KernelIdeal.Sdtw
end
-- ==== Proof.KernelIdeal.Launch.lean ====
/-
  The launch: the arguments split into their blocks, the body's triple at each point, the run and the frame.
-/
module

public import proofs.«01_k».proof.Proof.KernelIdeal.Body
public import Idealize.ShloMosaic.Lib.Pipeline.FrameSuffix

@[expose] public section

set_option maxRecDepth 16384

noncomputable section

namespace Cert.KernelIdeal.Sdtw

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

open Idealize.ShloMosaic.ValueIdx

variable (m : (ℓ : Loc nD τ sig) → Buf (Elt F) ℓ) (ρ : Dev nD → PrngReg)

/-! ## The arguments by their blocks, the double buffers by their slots -/

def blkSet (b : Fin 64) : Finset S64x512x64.Idx := (Rect.unit (s := S64x512x64) (blkOff b) S1x512x64.size (blkOff_inb b)).set
def slotSet (s : Fin 2) : Finset S2x512x64.Idx := (Rect.unit (s := S2x512x64) (slotOff s) S1x512x64.size (slotOff_inb s)).set

theorem mem_blkSet (b : Fin 64) (y : S64x512x64.Idx) : y ∈ blkSet b ↔ (y 0).val = b.val := by
  unfold blkSet; rw [Rect.mem_set_unit]
  have h1 : (y 1).val < 512 := (y 1).isLt
  have h2 : (y 2).val < 64 := (y 2).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 512; omega
    · show 0 ≤ (y 2).val ∧ (y 2).val < 0 + 64; omega
theorem mem_slotSet (s : Fin 2) (y : S2x512x64.Idx) : y ∈ slotSet s ↔ (y 0).val = s.val := by
  unfold slotSet; rw [Rect.mem_set_unit]
  have h1 : (y 1).val < 512 := (y 1).isLt
  have h2 : (y 2).val < 64 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 64; omega

theorem blk_disjoint : ∀ b b' : Fin 64, b ≠ b' → Disjoint (blkSet b) (blkSet b') := by
  intro b b' hne; rw [Finset.disjoint_left]; intro y hy hy'; rw [mem_blkSet] at hy hy'; exact hne (Fin.ext (hy.symm.trans hy'))
theorem blk_cover : (Finset.univ : Finset (Fin 64)).biUnion blkSet = Finset.univ := by
  ext y; simp only [Finset.mem_biUnion, Finset.mem_univ, true_and, iff_true]; exact ⟨(y 0).cast rfl, by rw [mem_blkSet]; rfl⟩
theorem slot_disjoint : ∀ s s' : Fin 2, s ≠ s' → Disjoint (slotSet s) (slotSet s') := by
  intro b b' hne; rw [Finset.disjoint_left]; intro y hy hy'; rw [mem_slotSet] at hy hy'; exact hne (Fin.ext (hy.symm.trans hy'))
theorem slot_cover : (Finset.univ : Finset (Fin 2)).biUnion slotSet = Finset.univ := by
  ext y; simp only [Finset.mem_biUnion, Finset.mem_univ, true_and, iff_true]; exact ⟨(y 0).cast rfl, by rw [mem_slotSet]; rfl⟩

theorem xBlk_set (b : Fin 64) : (xBlk b).view.set = blkSet b := by
  unfold xBlk; exact (View.set_reshape _ _).trans (View.set_slice_whole _ _)
theorem yBlk_set (b : Fin 64) : (yBlk b).view.set = blkSet b := by
  unfold yBlk; exact (View.set_reshape _ _).trans (View.set_slice_whole _ _)
theorem xSlot_set (s : Fin 2) : (xSlot s).view.set = slotSet s := by
  unfold xSlot; exact (View.set_reshape _ _).trans (View.set_slice_whole _ _)
theorem ySlot_set (s : Fin 2) : (ySlot s).view.set = slotSet s := by
  unfold ySlot; exact (View.set_reshape _ _).trans (View.set_slice_whole _ _)

omit [FloatOps F] [Named F] in
theorem bigSep_two (Φ : Fin 2 → sProp 𝕄) : bigSep Finset.univ Φ = iprop(Φ 0 ∗ Φ 1) :=
  bigSep_univ_eq_bigSepL [(0 : Fin 2), (1 : Fin 2)] (by decide) (by decide) Φ

section Split
variable (c : Dev nD)

/-- The first argument whole is its blocks home; the second likewise. -/
theorem x_homes (f : Buf (Elt F) (xM.view.loc (c : Thread nD τ))) :
    (((c : Thread nD τ).loc main_arg0) ↦{fullShare} f : sProp 𝕄) = bigSep Finset.univ (xHomeP c f) := by
  rw [Ring.pointsTo_blocks (ℓ := (c : Thread nD τ).loc main_arg0) blkSet blk_disjoint blk_cover]
  exact bigSep_congr fun b _ => by rw [← xBlk_set]; rfl
theorem y_homes (f : Buf (Elt F) (yM.view.loc (c : Thread nD τ))) :
    (((c : Thread nD τ).loc main_arg1) ↦{fullShare} f : sProp 𝕄) = bigSep Finset.univ (yHomeP c f) := by
  rw [Ring.pointsTo_blocks (ℓ := (c : Thread nD τ).loc main_arg1) blkSet blk_disjoint blk_cover]
  exact bigSep_congr fun b _ => by rw [← yBlk_set]; rfl

omit [FloatOps F] [Named F] in
theorem xSlotP_eq (s : Fin 2) (f) : xSlotP c s f = (((c : Thread nD τ).loc cc0_scratch2) ↦[slotSet s]{fullShare} f : sProp 𝕄) :=
  congrArg (fun S => (_ ↦[S]{fullShare} f : sProp 𝕄)) (xSlot_set s)
omit [FloatOps F] [Named F] in
theorem ySlotP_eq (s : Fin 2) (f) : ySlotP c s f = (((c : Thread nD τ).loc cc0_scratch3) ↦[slotSet s]{fullShare} f : sProp 𝕄) :=
  congrArg (fun S => (_ ↦[S]{fullShare} f : sProp 𝕄)) (ySlot_set s)

/-- A double buffer whole is its two slots, and back. -/
theorem x_split :
    iprop(∃ f : Buf (Elt F) ((c : Thread nD τ).loc cc0_scratch2), ((c : Thread nD τ).loc cc0_scratch2) ↦{fullShare} f)
      ⊢ (iprop((∃ f, xSlotP c 0 f) ∗ ∃ f, xSlotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) slotSet slot_disjoint slot_cover f).trans (bigSep_two _))) $$ H
  icases H2 with ⟨H0, H1⟩
  isplitl [H0]
  · iexists f; iapply (entails_of_eq (xSlotP_eq c 0 f).symm); iexact H0
  · iexists f; iapply (entails_of_eq (xSlotP_eq c 1 f).symm); iexact H1
theorem x_join :
    iprop((∃ f, xSlotP c 0 f) ∗ ∃ f, xSlotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) slotSet slot_disjoint slot_cover f0)
  irw [bigSep_two]
  isplitl [H0]
  · iexists f0; iapply (entails_of_eq (xSlotP_eq c 0 f0)); iexact H0
  · iexists f1; iapply (entails_of_eq (xSlotP_eq c 1 f1)); iexact H1

/-- A double buffer whole is its two slots, and back. -/
theorem y_split :
    iprop(∃ f : Buf (Elt F) ((c : Thread nD τ).loc cc0_scratch3), ((c : Thread nD τ).loc cc0_scratch3) ↦{fullShare} f)
      ⊢ (iprop((∃ f, ySlotP c 0 f) ∗ ∃ f, ySlotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch3) slotSet slot_disjoint slot_cover f).trans (bigSep_two _))) $$ H
  icases H2 with ⟨H0, H1⟩
  isplitl [H0]
  · iexists f; iapply (entails_of_eq (ySlotP_eq c 0 f).symm); iexact H0
  · iexists f; iapply (entails_of_eq (ySlotP_eq c 1 f).symm); iexact H1
theorem y_join :
    iprop((∃ f, ySlotP c 0 f) ∗ ∃ f, ySlotP c 1 f)
      ⊢ (iprop(∃ f : Buf (Elt F) ((c : Thread nD τ).loc cc0_scratch3), ((c : Thread nD τ).loc cc0_scratch3) ↦{fullShare} f) : sProp 𝕄) := by
  iintro ⟨⟨%f0, H0⟩, ⟨%f1, H1⟩⟩
  iapply (Ring.pointsTo_blocks_join_exists (ℓ := (c : Thread nD τ).loc cc0_scratch3) slotSet slot_disjoint slot_cover f0)
  irw [bigSep_two]
  isplitl [H0]
  · iexists f0; iapply (entails_of_eq (ySlotP_eq c 0 f0)); iexact H0
  · iexists f1; iapply (entails_of_eq (ySlotP_eq c 1 f1)); iexact H1

omit [FloatOps F] [Named F] in
/-- A whole scratch buffer as the body names it. -/
theorem tP_eq (f : Buf (Elt F) ((c : Thread nD τ).loc cc0_scratch1)) : tP c f = (((c : Thread nD τ).loc cc0_scratch1) ↦{fullShare} f : sProp 𝕄) :=
  congrArg (fun S => (((c : Thread nD τ).loc cc0_scratch1) ↦[S]{fullShare} f : sProp 𝕄)) (View.set_whole cc0_scratch1)
omit [FloatOps F] [Named F] in
theorem sP_eq (f : Buf (Elt F) ((c : Thread nD τ).loc cc0_scratch0)) : sP c f = (((c : Thread nD τ).loc cc0_scratch0) ↦{fullShare} f : sProp 𝕄) :=
  congrArg (fun S => (((c : Thread nD τ).loc cc0_scratch0) ↦[S]{fullShare} f : sProp 𝕄)) (View.set_whole cc0_scratch0)

end Split

/-! ## The pipeline's data -/

abbrev osem0 : Fin 4 → SemLoc sig := fun j => (![SemLoc.dma 2, SemLoc.dma 3, SemLoc.dma 4, SemLoc.dma 5] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(xCellP c 0 ∗ xCellP c 1 ∗ yCellP c 0 ∗ yCellP c 1) := by
  rw [Pipeline.ownSems0_eq_of_list c osem0 [0, 1, 2, 3] (by decide) (by decide)]; rfl
/-- The buffers the body's transfers read: both arguments. -/
def H0 : Finset (Ref sig .tc) := {main_arg0, main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop(bigSep Finset.univ (xHomeP c (V m c main_arg0)) ∗ bigSep Finset.univ (yHomeP c (V m c main_arg1))) := by
  rw [BI.bigSep_eq_bigSepL_of_eq [main_arg0, main_arg1] (by decide) (by decide), ← x_homes, ← y_homes]; rfl

theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))
          ∗ (∃ r, prngReg c r)
          ∗ iprop(xCellP c 0 ∗ xCellP c 1 ∗ yCellP c 0 ∗ yCellP c 1)
          ∗ iprop(bigSep Finset.univ (xHomeP c (V m c main_arg0)) ∗ bigSep Finset.univ (yHomeP c (V m c main_arg1)))) := by
  rw [Pipeline.ΦD_eq, scopedRest0_eq, ownSems00_eq, hbmPts0_eq]

/-- The output block's four stores, each eight rows, fill it. -/
theorem outL_cover (S : S512x32x512.Idx → Elt F .f32) (y : S32x1.Idx) : ∃ pc ∈ outL S, y ∈ pc.1.set :=
  View.cover_of_tiledL (outL S) S8x1.size (by sl_kernel_rfl) y

abbrev VO : View sig .tc .vmem S32x1 .f32 := (Memref.whole cc0_stg0_0 : Memref sig .tc .vmem S32x1 .f32).view
/-- The output block a point leaves: its four stores read back over junk. -/
def outBlock (S : S512x32x512.Idx → Elt F .f32) : Vec F S32x1 .f32 := VO.read (Elt F) (VO.writes (Elt F) VO.junk (outL S))
/-- The output block of point `t`. -/
def outAt (c : Dev nD) (t : Fin cfg0.N) : Vec F S32x1 .f32 := outBlock (skew c (V m c main_arg0) (V m c main_arg1) (grid0.coords t))

/-- The proof data of the pipeline on core `c`: the array as the region finds it, its block after the body, the body's
    own buffers and cells at rest, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => outAt m c t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = outAt m c t := by dsimp only [dats]

abbrev ms0_0 (t : Fin cfg0.N) : Memref sig .tc .vmem S32x1 .f32 := win0_0.stage (cfg0.slots t 0)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

/-- The stored block does not depend on what the staging buffer held. -/
theorem out_eq (c : Dev nD) (t : Fin cfg0.N) (f3 : Buf (Elt F) ((ms0_0 t).view.loc (c : Thread nD τ))) :
    (ms0_0 t).view.read (Elt F) ((ms0_0 t).view.writes (Elt F) f3 (outL (skew c (V m c main_arg0) (V m c main_arg1) (grid0.coords t)))) = outAt m c t := by
  unfold outAt outBlock
  exact View.read_writes_of_cover _ _ _ _ _ (outL_cover _)

/-- The body at a point: from the resources at rest to the resources at rest, the output block stored. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost
  rw [show (dats m 0 c).Φ t.succ = (dats m 0 c).Φ t.castSucc from rfl, after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold owns
  iintro ⟨⟨⟨⟨%fs, HS⟩, ⟨%ft, HT⟩, Hx, Hy⟩, Hg, ⟨HC0, HC1, HD0, HD1⟩, ⟨HX, HY⟩⟩, ⟨%W, -, HW⟩, ⟨%d0, %f3, %h3, H3⟩⟩
  ihave Hx' := (x_split c) $$ Hx
  icases Hx' with ⟨Hx0, Hx1⟩
  ihave Hy' := (y_split c) $$ Hy
  icases Hy' with ⟨Hy0, Hy1⟩
  iapply (wp_wand_r frame (wpE (defs₀ (F := F)) 𝒱₀ (c : Thread nD τ) none) Set.univ)
  isplitl [HS HT Hx0 Hx1 Hy0 Hy1 HC0 HC1 HD0 HD1 HX HY HW H3]
  · unfold bodyAt0
    iapply (bodyRun c (V m c main_arg0) (V m c main_arg1) (grid0.coords t) (ms0_0 t) _ f3)
    isplitl [HT]; · iexists ft; iapply (entails_of_eq (tP_eq c ft).symm); iexact HT
    isplitl [HS]; · iexists fs; iapply (entails_of_eq (sP_eq c fs).symm); iexact HS
    isplitr [H3]
    · unfold idleAt
      isplitl [HX]; · iexact HX
      isplitl [HY]; · iexact HY
      isplitl [Hx0]; · iexact Hx0
      isplitl [Hy0]; · iexact Hy0
      isplitl [HC0]; · iexact HC0
      isplitl [HD0]; · iexact HD0
      isplitl [Hx1]; · iexact Hx1
      isplitl [Hy1]; · iexact Hy1
      isplitl [HC1]; · iexact HC1
      isplitl [HD1]; · iexact HD1
      iexists W; iexact HW
    iexact H3
  iintro %_ ⟨⟨%ft', HT⟩, ⟨%fs', HS⟩, HI, H3⟩
  unfold idleAt
  icases HI with ⟨HX, HY, Hx0, Hy0, HC0, HD0, Hx1, Hy1, HC1, HD1, ⟨%W', HW'⟩⟩
  isplitl [HS HT Hx0 Hx1 Hy0 Hy1 HC0 HC1 HD0 HD1 HX HY Hg]
  · isplitl [HS HT Hx0 Hx1 Hy0 Hy1]
    · isplitl [HS]; · iexists fs'; iapply (entails_of_eq (sP_eq c fs')); iexact HS
      isplitl [HT]; · iexists ft'; iapply (entails_of_eq (tP_eq c ft')); iexact HT
      isplitl [Hx0 Hx1]
      · iapply (x_join c)
        isplitl [Hx0]; · iexact Hx0
        iexact Hx1
      iapply (y_join c)
      isplitl [Hy0]; · iexact Hy0
      iexact Hy1
    isplitl [Hg]; · iexact Hg
    isplitl [HC0 HC1 HD0 HD1]
    · isplitl [HC0]; · iexact HC0
      isplitl [HC1]; · iexact HC1
      isplitl [HD0]; · iexact HD0
      iexact HD1
    isplitl [HX]; · iexact HX
    iexact HY
  isplitl [HW']
  · iexists W'; isplitr; · ipureintro; exact fun _ _ => Or.inl trivial
    iexact HW'
  iexists _; isplitr
  swap; · iexact H3
  ipureintro; exact out_eq m c t f3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The line after the region touches neither argument. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  simp only [H0, Finset.mem_insert, Finset.mem_singleton] at hb
  rw [StableHlo.TRef.reshape, StableHlo.reshape_bufs, Finset.mem_insert, Finset.mem_singleton, not_or]
  rcases hb with rfl | rfl <;> exact ⟨StableHlo.devRef_ne_of_ne (by decide), StableHlo.devRef_ne_of_ne (by decide)⟩

set_option backward.isDefEq.respectTransparency.types false in
/-- Every weakly fair execution terminates; the buffers end as the pipeline's data and the host line say, every counter
    at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ 𝒱₀ ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m) (hA := A_eq m) (hin := fun _ => .rfl) (hout := fun _ => .rfl)

/-- The host line after the region does not write `arg0`: it ends as launched. -/
theorem W_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  rfl

/-- The host line after the region does not write `arg1`: it ends as launched. -/
theorem W_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  rfl

/-- The program terminates, its arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(((h.1 c).2 main_arg0 (Pipeline.mem_restRefs_of main_arg0 (by decide) (by decide))).trans (W_arg0 m c)),
      (((h.1 c).2 main_arg1 (Pipeline.mem_restRefs_of main_arg1 (by decide) (by decide))).trans (W_arg1 m c))⟩, h.2⟩) (run_main m ρ)

end Cert.KernelIdeal.Sdtw
end
-- ==== Proof.Claims.Frames.lean ====
/-
  The claims that need no values: each program runs to its end with its arguments unchanged and every semaphore back at
  zero, and the kernel over the extended reals is the kernel with its three literals named.
-/
module

public import proofs.«01_k».proof.Defs
public import proofs.«01_k».proof.Proof.Kernel.Launch
public import proofs.«01_k».proof.Proof.KernelIdeal.Launch
public import proofs.«01_k».proof.Proof.Gen.ReferenceIdeal.Run
public import Idealize.ShloMosaic.Lib.Quiescent

@[expose] public section

noncomputable section

namespace Cert.SdtwClaims

open Idealize.ShloMosaic Idealize.ShloMosaic.TcCoe Idealize.SL.Sem

/-- The kernel terminates with its arguments as they were and its semaphores at zero. -/
theorem frame_p : Cert.quiescent_Kernel := fun m ρ _ => Cert.Kernel.Sdtw.frame m ρ

/-- So does the kernel over the extended reals. -/
theorem frame_pi : Cert.quiescent_KernelIdeal := fun m ρ _ => Cert.KernelIdeal.Sdtw.frame m ρ

/-- So does the reference, which has no semaphores at all. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named literal stands for the value the table gives it. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "big" .f32 0x501502F9#32 ⊤ rfl,
    IdealRules.named_const.statement Cert.KernelIdeal.κ "ln2" .f32 0x3F317218#32 ((Real.log 2 : ℝ) : EReal) rfl⟩

end Cert.SdtwClaims

end
-- ==== Proof.Math.Soft.lean ====
/-
  The soft minimum of three extended reals, -log (exp (-a) + exp (-b) + exp (-c)), where an infinite argument weighs
  nothing; and that two spellings of it are it: the base-2 one, shifted by the least, on arguments scaled by 1 / log 2;
  and the one shifted by any real.
-/
module

public import Idealize.ShloMosaic.PureOps.Ideal

@[expose] public section

noncomputable section

namespace Cert.SdtwMath

open Idealize.ShloMosaic

/-- What a value adds to the sum of the soft minimum: exp (-x), nothing where x is infinite. -/
def wt (x : EReal) : ℝ := if x = ⊤ then 0 else Real.exp (-x.toReal)

/-- The soft minimum. -/
def soft (a b c : EReal) : EReal := -Ideal.log ((wt a + wt b + wt c : ℝ) : EReal)

/-- The scale 1 / log 2. -/
abbrev L2 : ℝ := (Real.log 2)⁻¹

theorem log2_pos : 0 < Real.log 2 := Real.log_pos (by norm_num)
theorem L2_pos : 0 < L2 := inv_pos.mpr log2_pos

theorem wt_top : wt ⊤ = 0 := if_pos rfl
theorem wt_coe (r : ℝ) : wt (r : EReal) = Real.exp (-r) := by
  rw [wt, if_neg (EReal.coe_ne_top r), EReal.toReal_coe]
theorem wt_nonneg (x : EReal) : 0 ≤ wt x := by
  unfold wt; split
  · exact le_rfl
  · exact (Real.exp_pos _).le
theorem wt_pos {x : EReal} (h : x ≠ ⊤) : 0 < wt x := by rw [wt, if_neg h]; exact Real.exp_pos _

theorem soft_comm (a b c : EReal) : soft a b c = soft b a c := by unfold soft; rw [add_comm (wt a)]

theorem soft_top : soft ⊤ ⊤ ⊤ = ⊤ := by
  unfold soft; rw [wt_top, Ideal.log_coe, if_pos (by norm_num)]; rfl

/-- The soft minimum from a single finite value zero is zero. -/
theorem soft_zero : soft 0 ⊤ ⊤ = 0 := by
  unfold soft
  rw [wt_top, show (0 : EReal) = ((0 : ℝ) : EReal) from rfl, wt_coe, Ideal.log_coe, if_neg (by norm_num)]
  simp

/-- The soft minimum is never minus infinity. -/
theorem soft_ne_bot (a b c : EReal) : soft a b c ≠ ⊥ := by
  unfold soft
  rw [Ideal.log_coe]
  split
  · simp
  · intro h
    rw [EReal.neg_eq_bot_iff] at h
    exact EReal.coe_ne_top _ h

theorem soft_pos {a b c : EReal} (h : 0 < wt a + wt b + wt c) : soft a b c = ((-Real.log (wt a + wt b + wt c) : ℝ) : EReal) := by
  unfold soft
  rw [Ideal.log_coe, if_neg (not_le.mpr h)]
  rfl

/-- Scaling by a positive real passes sums. -/
theorem add_scale {x y : EReal} (hx : x ≠ ⊥) (hy : y ≠ ⊥) : x * (L2 : EReal) + y * (L2 : EReal) = (x + y) * (L2 : EReal) := by
  have ht : (⊤ : EReal) * (L2 : EReal) = ⊤ := EReal.top_mul_coe_of_pos L2_pos
  induction x with
  | bot => exact absurd rfl hx
  | top => rw [ht, EReal.top_add_of_ne_bot hy, ht, EReal.top_add_of_ne_bot]
           induction y with
           | bot => exact absurd rfl hy
           | top => rw [ht]; simp
           | coe r => rw [← EReal.coe_mul]; exact EReal.coe_ne_bot _
  | coe r =>
    induction y with
    | bot => exact absurd rfl hy
    | top => rw [ht, EReal.add_top_of_ne_bot (EReal.coe_ne_bot _), ht, EReal.add_top_of_ne_bot]; rw [← EReal.coe_mul]; exact EReal.coe_ne_bot _
    | coe s => rw [← EReal.coe_mul, ← EReal.coe_mul, ← EReal.coe_add, ← EReal.coe_add, ← EReal.coe_mul, add_mul]

theorem scale_ne_bot {x : EReal} (hx : x ≠ ⊥) : x * (L2 : EReal) ≠ ⊥ := by
  induction x with
  | bot => exact absurd rfl hx
  | top => rw [EReal.top_mul_coe_of_pos L2_pos]; simp
  | coe r => rw [← EReal.coe_mul]; exact EReal.coe_ne_bot _

theorem scale_eq_top {x : EReal} (h : x * (L2 : EReal) = ⊤) : x = ⊤ := by
  induction x with
  | bot => rw [EReal.bot_mul_coe_of_pos L2_pos] at h; exact absurd h (by simp)
  | top => rfl
  | coe r => rw [← EReal.coe_mul] at h; exact absurd h (EReal.coe_ne_top _)

/-- Scaling by 1 / log 2, then by log 2, is nothing. -/
theorem scale_back (x : EReal) : x * (L2 : EReal) * ((Real.log 2 : ℝ) : EReal) = x := by
  induction x with
  | bot => rw [EReal.bot_mul_coe_of_pos L2_pos, EReal.bot_mul_coe_of_pos log2_pos]
  | top => rw [EReal.top_mul_coe_of_pos L2_pos, EReal.top_mul_coe_of_pos log2_pos]
  | coe r => rw [← EReal.coe_mul, ← EReal.coe_mul, mul_assoc, inv_mul_cancel₀ log2_pos.ne', mul_one]

/-- A power of two of a real less a scaled value is that value's weight, scaled. -/
theorem exp2_shift (μ : ℝ) {x : EReal} (hx : x ≠ ⊥) :
    Ideal.exp2 ((μ : EReal) - x * (L2 : EReal)) = ((Real.rpow 2 μ * wt x : ℝ) : EReal) := by
  induction x with
  | bot => exact absurd rfl hx
  | top => rw [EReal.top_mul_coe_of_pos L2_pos, show (μ : EReal) - ⊤ = ⊥ from EReal.sub_top _, Ideal.exp2_bot, wt_top, mul_zero]; rfl
  | coe r =>
    rw [← EReal.coe_mul, ← EReal.coe_sub, Ideal.exp2_coe, wt_coe]
    congr 1
    show (2 : ℝ) ^ (μ - r * L2) = (2 : ℝ) ^ μ * Real.exp (-r)
    rw [sub_eq_add_neg, Real.rpow_add (by norm_num)]
    congr 1
    rw [Real.rpow_def_of_pos (by norm_num)]
    congr 1
    have := log2_pos.ne'
    show Real.log 2 * -(r * (Real.log 2)⁻¹) = -r
    field_simp

/-- The base-2 spelling: on scaled arguments it is the soft minimum, scaled. -/
theorem soft_base2 {a b c : EReal} (ha : a ≠ ⊥) (hb : b ≠ ⊥) (hc : c ≠ ⊥) {m : EReal}
    (hm : m = min (min (a * (L2 : EReal)) (b * (L2 : EReal))) (c * (L2 : EReal))) :
    m - Ideal.log (Ideal.exp2 (m - a * (L2 : EReal)) + Ideal.exp2 (m - b * (L2 : EReal)) + Ideal.exp2 (m - c * (L2 : EReal))) * (L2 : EReal)
      = soft a b c * (L2 : EReal) := by
  have hmb : m ≠ ⊥ := by
    rw [hm]
    intro h
    rcases min_eq_bot.mp h with h | h
    · rcases min_eq_bot.mp h with h | h
      · exact scale_ne_bot ha h
      · exact scale_ne_bot hb h
    · exact scale_ne_bot hc h
  induction m with
  | bot => exact absurd rfl hmb
  | top =>
    have h1 := min_eq_top.mp hm.symm
    have h2 := min_eq_top.mp h1.1
    rw [scale_eq_top h2.1, scale_eq_top h2.2, scale_eq_top h1.2, soft_top, EReal.top_mul_coe_of_pos L2_pos]
    rw [show (⊤ : EReal) - ⊤ = ⊥ from EReal.sub_top _, Ideal.exp2_bot, add_zero, add_zero, show (0 : EReal) = ((0 : ℝ) : EReal) from rfl, Ideal.log_coe,
      if_pos le_rfl, EReal.bot_mul_coe_of_pos L2_pos]
    rfl
  | coe μ =>
    have hS : 0 < wt a + wt b + wt c := by
      have ha0 := wt_nonneg a
      have hb0 := wt_nonneg b
      have hc0 := wt_nonneg c
      by_cases h1 : a = ⊤
      · by_cases h2 : b = ⊤
        · have h3 : c ≠ ⊤ := fun h3 => by
            rw [h1, h2, h3, EReal.top_mul_coe_of_pos L2_pos, min_self, min_self] at hm
            exact EReal.coe_ne_top _ hm
          have := wt_pos h3; linarith
        · have := wt_pos h2; linarith
      · have := wt_pos h1; linarith
    have hp : (0 : ℝ) < Real.rpow 2 μ := Real.rpow_pos_of_pos (by norm_num) μ
    rw [exp2_shift μ ha, exp2_shift μ hb, exp2_shift μ hc, ← EReal.coe_add, ← EReal.coe_add, ← mul_add, ← mul_add, Ideal.log_coe,
      if_neg (not_le.mpr (mul_pos hp hS)), soft_pos hS, ← EReal.coe_mul, ← EReal.coe_sub, ← EReal.coe_mul]
    congr 1
    rw [Real.log_mul hp.ne' hS.ne', show Real.log (Real.rpow 2 μ) = μ * Real.log 2 from Real.log_rpow (by norm_num) μ]
    have := log2_pos.ne'
    show μ - (μ * Real.log 2 + _) * (Real.log 2)⁻¹ = -_ * (Real.log 2)⁻¹
    field_simp
    ring

/-- An exponential of a negated value less a real is that value's weight, scaled. -/
theorem exp_shift (μ : ℝ) {x : EReal} (hx : x ≠ ⊥) : Ideal.exp (-x - (μ : EReal)) = ((Real.exp (-μ) * wt x : ℝ) : EReal) := by
  induction x with
  | bot => exact absurd rfl hx
  | top => rw [EReal.neg_top, show (⊥ : EReal) - (μ : EReal) = ⊥ from EReal.bot_sub _, Ideal.exp_bot, wt_top, mul_zero]; rfl
  | coe r =>
    rw [← EReal.coe_neg, ← EReal.coe_sub, Ideal.exp_coe, wt_coe, ← Real.exp_add]
    congr 2; ring

/-- The natural spelling, shifted by any real. -/
theorem soft_shifted {a b c : EReal} (ha : a ≠ ⊥) (hb : b ≠ ⊥) (hc : c ≠ ⊥) (μ : ℝ) :
    ((-1 : ℝ) : EReal) * (Ideal.log (Ideal.exp (-a - (μ : EReal)) + Ideal.exp (-b - (μ : EReal)) + Ideal.exp (-c - (μ : EReal))) + (μ : EReal)) = soft a b c := by
  rw [exp_shift μ ha, exp_shift μ hb, exp_shift μ hc, ← EReal.coe_add, ← EReal.coe_add, ← mul_add, ← mul_add, Ideal.log_coe]
  have hp := Real.exp_pos (-μ)
  by_cases hS : 0 < wt a + wt b + wt c
  · rw [if_neg (not_le.mpr (mul_pos hp hS)), soft_pos hS, ← EReal.coe_add, ← EReal.coe_mul]
    congr 1
    rw [Real.log_mul hp.ne' hS.ne', Real.log_exp]
    ring
  · have h0 : wt a + wt b + wt c = 0 := le_antisymm (not_lt.mp hS) (by have := wt_nonneg a; have := wt_nonneg b; have := wt_nonneg c; linarith)
    unfold soft
    rw [h0, mul_zero, if_pos le_rfl, EReal.bot_add, Ideal.log_coe, if_pos le_rfl, EReal.coe_mul_bot_of_neg (by norm_num)]
    rfl

end Cert.SdtwMath

end
-- ==== Proof.Value.Lits.lean ====
/-
  The literals and the named constants of both programs at the extended reals.
-/
module

public import proofs.«01_k».proof.Proof.Gen.KernelIdeal
public import proofs.«01_k».proof.Proof.Math.Soft
public import Idealize.ShloMosaic.PureOps.IdealRules

@[expose] public section

noncomputable section

namespace Cert.SdtwValue

open Idealize.ShloMosaic

theorem lit_zero : Ideal.ofBits .f32 0x00000000#32 = 0 := by
  simp [Ideal.ofBits, Ideal.ieee, -EReal.coe_mul]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_inf : Ideal.ofBits .f32 0x7F800000#32 = ⊤ := by
  simp [Ideal.ofBits, Ideal.ieee, -EReal.coe_mul]
theorem lit_neg_inf : Ideal.ofBits .f32 0xFF800000#32 = ⊥ := by
  simp [Ideal.ofBits, Ideal.ieee, -EReal.coe_mul]

theorem named_log2e : Named.named (F := Ideal) Cert.KernelIdeal.κ "log2e" (φ := .f32) 0x3FB8AA3B#32 = ((SdtwMath.L2 : ℝ) : EReal) :=
  IdealRules.named_const.ideal_named_scalar _ _ _ _ rfl
theorem named_ln2 : Named.named (F := Ideal) Cert.KernelIdeal.κ "ln2" (φ := .f32) 0x3F317218#32 = ((Real.log 2 : ℝ) : EReal) :=
  IdealRules.named_const.ideal_named_scalar _ _ _ _ rfl
theorem named_big : Named.named (F := Ideal) Cert.KernelIdeal.κ "big" (φ := .f32) 0x501502F9#32 = ⊤ :=
  IdealRules.named_const.ideal_named_scalar _ _ _ _ rfl

end Cert.SdtwValue

end
-- ==== Proof.Math.Dist.lean ====
/-
  The distance of two rows of 64 extended reals, by the square of the difference multiplied out.
-/
module

public import Idealize.ShloMosaic.PureOps.Ideal

@[expose] public section

noncomputable section

namespace Cert.SdtwMath

open Idealize.ShloMosaic

/-- The distance: the root of |x|² + |y|² - 2 x·y, of zero where that is negative. -/
def dist (x y : Fin 64 → EReal) : EReal :=
  Ideal.sqrt (max ((∑ k, x k * x k) + (∑ k, y k * y k) - ((2 : ℝ) : EReal) * ∑ k, x k * y k) 0)

/-- A root of what is not negative is not minus infinity. -/
theorem sqrt_max_ne_bot (z : EReal) : Ideal.sqrt (max z 0) ≠ ⊥ := by
  have h : (0 : EReal) ≤ max z 0 := le_max_right _ _
  generalize max z 0 = w at h ⊢
  induction w with
  | bot => exact absurd h (by simp)
  | top => rw [Ideal.sqrt_top]; simp
  | coe r => rw [Ideal.sqrt_coe, if_neg (not_lt.mpr (EReal.coe_nonneg.mp h))]; exact EReal.coe_ne_bot _

theorem dist_ne_bot (x y : Fin 64 → EReal) : dist x y ≠ ⊥ := sqrt_max_ne_bot _

end Cert.SdtwMath

end
-- ==== Proof.Value.Tile.lean ====
/-
  What one batch's tile holds at the extended reals: entry (r, q) is 1 / log 2 times the distance of row q of x and row
  (r - q) mod 512 of y. A tile is the matrix of distances, rolled down by the piece's first lane, then rolled down once
  more by each bit of the lane where the lane has it.
-/
module

public import proofs.«01_k».proof.Proof.KernelIdeal.Body
public import proofs.«01_k».proof.Proof.Value.Lits
public import proofs.«01_k».proof.Proof.Math.Dist
public import Idealize.ShloMosaic.Lib.KernelVsHost
public import Idealize.ShloMosaic.Lib.MatmulPlain
public import Idealize.ShloMosaic.Lib.Pointwise.Reduce
public import Idealize.ShloMosaic.Lib.Pointwise.Reshape

@[expose] public section

set_option maxRecDepth 16384

noncomputable section

namespace Cert.KernelIdeal.Sdtw

open Cert.KernelIdeal Cert.KernelIdeal.Gen
open Idealize.ShloMosaic

section Roll
variable {F : FTy → Type} [FloatOps F] [Named F]

/-- Rows rolled down by `sh`, in the lanes that have a bit of `sh`. -/
def rollIf (v1 : IVec S512x128 32) (sh : BitVec 32) (v : FVec F S512x128 .f32) : FVec F S512x128 .f32 :=
  select (cmpi .ne (andi v1 (broadcast S512x128 sh)) (broadcast S512x128 0#32)) (dynamicRotate 0 sh none v rotates_S512x128_d0) v

/-- The seven conditional rolls. -/
def rolls (v1 : IVec S512x128 32) (v : FVec F S512x128 .f32) : FVec F S512x128 .f32 :=
  rollIf v1 64#32 (rollIf v1 32#32 (rollIf v1 16#32 (rollIf v1 8#32 (rollIf v1 4#32 (rollIf v1 2#32 (rollIf v1 1#32 v))))))

/-- A piece's matrix of scaled distances, before the rolls: 128 rows of x from row `o`. -/
def distM (o : ℕ) (hx : S512x64.Slices ![o, 0] S128x64) (hn : S1x512.Slices ![0, o] S1x128) (xv yv : Vec F S1x512x64 .f32) : FVec F S512x128 .f32 :=
  mulf (sqrt (maximumf (subf (addf (broadcastTo S512x128 (k0_pay7 yv) broadcasts_S512x1_S512x128)
      (broadcastTo S512x128 (extractStridedSlice S1x128 ![0, o] (k0_pay6 k0_pay103 xv) hn) broadcasts_S1x128_S512x128))
    (mulf (broadcast S512x128 (Scalar.ofBits .f32 0x40000000#32))
      (matmul dot_S512x64_S128x64_S512x128_1_1_0_0_n_n none (k0_pay5 yv) (extractStridedSlice S128x64 ![o, 0] (k0_pay4 xv) hx)
        (constant S512x128 .f32 0x00000000#32)))) (broadcast S512x128 (Scalar.ofBits .f32 0x00000000#32))))
    (broadcast S512x128 (Named.named κ "log2e" 0x3FB8AA3B#32))

theorem tile0_eq (v1 : IVec S512x128 32) (xv yv : Vec F S1x512x64 .f32) : tile0 v1 xv yv
    = shapeCast S1x512x128 (rolls v1 (dynamicRotate 0 0#32 none (distM 0 slices_S512x64_o0_0_S128x64 slices_S1x512_o0_0_S1x128 xv yv) rotates_S512x128_d0)) shapeCasts_S512x128_S1x512x128 := rfl
theorem tile1_eq (v1 : IVec S512x128 32) (xv yv : Vec F S1x512x64 .f32) : tile1 v1 xv yv
    = shapeCast S1x512x128 (rolls v1 (dynamicRotate 0 128#32 none (distM 128 slices_S512x64_o128_0_S128x64 slices_S1x512_o0_128_S1x128 xv yv) rotates_S512x128_d0)) shapeCasts_S512x128_S1x512x128 := rfl
theorem tile2_eq (v1 : IVec S512x128 32) (xv yv : Vec F S1x512x64 .f32) : tile2 v1 xv yv
    = shapeCast S1x512x128 (rolls v1 (dynamicRotate 0 256#32 none (distM 256 slices_S512x64_o256_0_S128x64 slices_S1x512_o0_256_S1x128 xv yv) rotates_S512x128_d0)) shapeCasts_S512x128_S1x512x128 := rfl
theorem tile3_eq (v1 : IVec S512x128 32) (xv yv : Vec F S1x512x64 .f32) : tile3 v1 xv yv
    = shapeCast S1x512x128 (rolls v1 (dynamicRotate 0 384#32 none (distM 384 slices_S512x64_o384_0_S128x64 slices_S1x512_o0_384_S1x128 xv yv) rotates_S512x128_d0)) shapeCasts_S512x128_S1x512x128 := rfl

/-- Row `r` less `n`, around the end. -/
def rowLess (r : Fin 512) (n : ℕ) : Fin 512 := ⟨(r.val + 512 - n) % 512, Nat.mod_lt _ (by decide)⟩

theorem rotate_apply (sh : BitVec 32) (n : ℕ) (hn : sh.toNat = n) (hn' : n < 512) (v : FVec F S512x128 .f32) (r : Fin 512) (q : Fin 128) :
    dynamicRotate 0 sh none v rotates_S512x128_d0 (ValueIdx.ix2 r q) = v (ValueIdx.ix2 (rowLess r n) q) := by
  refine dynamicRotate_apply (s := S512x128) 0 sh v _ _ _ (fun b => ?_)
  match b with
  | ⟨0, _⟩ =>
    rw [if_pos (show (⟨0, _⟩ : Fin S512x128.rank) = 0 from rfl), hn]
    show (r.val + 512 - n) % 512 = (r.val + 512 - n % 512) % 512
    rw [Nat.mod_eq_of_lt hn']
  | ⟨1, _⟩ => rfl

/-- Lane `q` holds its number. -/
theorem lanes_apply (r : Fin 512) (q : Fin 128) : lanes (ValueIdx.ix2 r q) = BitVec.ofNat 32 q.val :=
  iota_single_apply _ _ _ _ _ _

theorem rollIf_apply (sh : BitVec 32) (n : ℕ) (hn : sh.toNat = n) (hn' : n < 512)
    (hb : ∀ q : Fin 128, (BitVec.ofNat 32 q.val &&& sh) ≠ 0#32 ↔ q.val / n % 2 = 1) (B v : FVec F S512x128 .f32) (off : Fin 128 → ℕ)
    (hoff : ∀ q, off q + q.val / n % 2 * n ≤ 512)
    (hv : ∀ r q, v (ValueIdx.ix2 r q) = B (ValueIdx.ix2 (rowLess r (off q)) q)) (r : Fin 512) (q : Fin 128) :
    rollIf lanes sh v (ValueIdx.ix2 r q) = B (ValueIdx.ix2 (rowLess r (off q + q.val / n % 2 * n)) q) := by
  have key : rollIf lanes sh v (ValueIdx.ix2 r q) = if (BitVec.ofNat 32 q.val &&& sh) ≠ 0#32 then v (ValueIdx.ix2 (rowLess r n) q) else v (ValueIdx.ix2 r q) := by
    unfold rollIf
    rw [← rotate_apply sh n hn hn' v r q]
    show (if BitVec.ofBool ((lanes (ValueIdx.ix2 r q) &&& sh) != 0#32) = 1 then _ else _) = _
    rw [lanes_apply]
    by_cases h : (BitVec.ofNat 32 q.val &&& sh) = 0#32
    · rw [h, if_neg (by decide), if_neg (fun e => e rfl)]
    · rw [bne_iff_ne.mpr h, if_pos (by decide), if_pos h]
  rw [key]
  have ho := hoff q
  by_cases h : q.val / n % 2 = 1
  · rw [if_pos ((hb q).mpr h), hv, h]
    rw [h] at ho
    congr 2
    refine Fin.ext ?_
    show ((r.val + 512 - n) % 512 + 512 - off q) % 512 = (r.val + 512 - (off q + 1 * n)) % 512
    omega
  · rw [if_neg (fun e => h ((hb q).mp e)), hv, show q.val / n % 2 = 0 by omega, Nat.zero_mul, Nat.add_zero]

/-- All seven: a row is rolled down by its lane's number. -/
theorem rolls_apply (B v : FVec F S512x128 .f32) (o : ℕ) (ho : o ≤ 384)
    (hv : ∀ r q, v (ValueIdx.ix2 r q) = B (ValueIdx.ix2 (rowLess r o) q)) (r : Fin 512) (q : Fin 128) :
    rolls lanes v (ValueIdx.ix2 r q) = B (ValueIdx.ix2 (rowLess r (o + q.val)) q) := by
  have hb : ∀ (t : Fin 7) (q : Fin 128), (BitVec.ofNat 32 q.val &&& BitVec.ofNat 32 (2 ^ t.val)) ≠ 0#32 ↔ q.val / 2 ^ t.val % 2 = 1 := by decide +kernel
  have hq : ∀ q : Fin 128, q.val < 128 := fun q => q.isLt
  have h := rollIf_apply 64#32 64 rfl (by decide) (hb 6) B _ _ (fun q => by have := hq q; omega)
    (rollIf_apply 32#32 32 rfl (by decide) (hb 5) B _ _ (fun q => by have := hq q; omega)
      (rollIf_apply 16#32 16 rfl (by decide) (hb 4) B _ _ (fun q => by have := hq q; omega)
        (rollIf_apply 8#32 8 rfl (by decide) (hb 3) B _ _ (fun q => by have := hq q; omega)
          (rollIf_apply 4#32 4 rfl (by decide) (hb 2) B _ _ (fun q => by have := hq q; omega)
            (rollIf_apply 2#32 2 rfl (by decide) (hb 1) B _ _ (fun q => by have := hq q; omega)
              (rollIf_apply 1#32 1 rfl (by decide) (hb 0) B v (fun _ => o) (fun q => by have := hq q; omega) hv)))))) r q
  refine h.trans ?_
  congr 3
  have := hq q
  omega

end Roll

/-! ## The distances -/

section Dist

variable (xv yv : Vec Ideal S1x512x64 .f32)

/-- Row `n` of a block of one batch. -/
def rowOf (v : Vec Ideal S1x512x64 .f32) (n : Fin 512) : Fin 64 → EReal := fun k => v (ValueIdx.ix3 0 n k)

theorem drop_apply (v : Vec Ideal S1x512x64 .f32) (n : Fin 512) (k : Fin 64) :
    shapeCast S512x64 v shapeCasts_S1x512x64_S512x64 (ValueIdx.ix2 n k) = rowOf v n k := by
  refine shapeCast_apply _ _ _ _ ?_
  rw [rowMajor_val3 _ (512 * 64) 64 rfl rfl, rowMajor_val2 _ 64 rfl]
  show 0 * _ + n.val * 64 + k.val = n.val * 64 + k.val
  omega

theorem lift_apply (v : FVec Ideal S512x128 .f32) (r : Fin 512) (q : Fin 128) :
    shapeCast S1x512x128 v shapeCasts_S512x128_S1x512x128 (ValueIdx.ix3 0 r q) = v (ValueIdx.ix2 r q) := by
  refine shapeCast_apply _ _ _ _ ?_
  rw [rowMajor_val3 _ (512 * 128) 128 rfl rfl, rowMajor_val2 _ 128 rfl]
  show r.val * 128 + q.val = 0 * _ + r.val * 128 + q.val
  omega

/-- The squared length of a row of y, by the sum over the lanes. -/
theorem yNorm_apply (n : Fin 512) : k0_pay7 yv (ValueIdx.ix2 n 0) = ∑ k, rowOf yv n k * rowOf yv n k := by
  unfold k0_pay7
  refine (shapeCast_apply (s := S512) _ _ _ (ValueIdx.ix1 n) ?_).trans ?_
  · rw [rowMajor_val1, rowMajor_val2 _ 1 rfl]
    show n.val = n.val * 1 + 0
    omega
  · refine (multiReduction_add_apply _ _ _ _ _ _).trans ((Ideal.reduceAdd_r2_a1 (n0 := 512) (n1 := 64) reduces_S512x64_S512 _ _).trans ?_)
    refine Finset.sum_congr rfl (fun k _ => ?_)
    exact congrArg₂ (· * ·) (drop_apply yv n k) (drop_apply yv n k)

theorem ones_apply (k : Fin 64) : (k0_pay103 : FVec Ideal S1x64 .f32) (ValueIdx.ix2 0 k) = ((1 : ℝ) : EReal) := SdtwValue.lit_one

/-- The squared length of a row of x, by a product with a row of ones. -/
theorem xNorm_apply (n : Fin 512) : k0_pay6 k0_pay103 xv (ValueIdx.ix2 0 n) = ∑ k, rowOf xv n k * rowOf xv n k := by
  unfold k0_pay6
  refine (Ideal.matmul_transposedRhs_apply (M := 1) (K := 64) (N := 512) none _ _ _ 0 n).trans ?_
  rw [show (constant S1x512 .f32 0x00000000#32 : FVec Ideal S1x512 .f32) (ValueIdx.ix2 0 n) = 0 from SdtwValue.lit_zero, zero_add]
  refine Finset.sum_congr rfl (fun k _ => ?_)
  rw [ones_apply, EReal.coe_one, one_mul]
  exact congrArg₂ (· * ·) (drop_apply xv n k) (drop_apply xv n k)

/-- A piece's matrix: entry (n, q) is the scaled distance of row `o + q` of x and row `n` of y. -/
theorem distM_apply (o : ℕ) (ho : o ≤ 384) (hx : S512x64.Slices ![o, 0] S128x64) (hn : S1x512.Slices ![0, o] S1x128) (n : Fin 512) (q : Fin 128) :
    distM o hx hn xv yv (ValueIdx.ix2 n q)
      = SdtwMath.dist (rowOf xv ⟨o + q.val, by omega⟩) (rowOf yv n) * ((SdtwMath.L2 : ℝ) : EReal) := by
  have h1 : broadcastTo S512x128 (k0_pay7 yv) broadcasts_S512x1_S512x128 (ValueIdx.ix2 n q) = ∑ k, rowOf yv n k * rowOf yv n k := by
    refine (broadcastTo_apply (s := S512x1) _ _ _ (ValueIdx.ix2 n 0) (fun a => ?_)).trans (yNorm_apply yv n)
    match a with
    | ⟨0, _⟩ => rfl
    | ⟨1, _⟩ => rfl
  have h2 : broadcastTo S512x128 (extractStridedSlice S1x128 ![0, o] (k0_pay6 k0_pay103 xv) hn) broadcasts_S1x128_S512x128 (ValueIdx.ix2 n q)
      = ∑ k, rowOf xv ⟨o + q.val, by omega⟩ k * rowOf xv ⟨o + q.val, by omega⟩ k := by
    refine (broadcastTo_apply (s := S1x128) _ _ _ (ValueIdx.ix2 0 q) (fun a => ?_)).trans
      ((extractStridedSlice_apply (s := S1x512) _ _ _ _ (ValueIdx.ix2 0 ⟨o + q.val, by omega⟩) (fun a => ?_)).trans (xNorm_apply xv _))
    · match a with
      | ⟨0, _⟩ => rfl
      | ⟨1, _⟩ => rfl
    · match a with
      | ⟨0, _⟩ => rfl
      | ⟨1, _⟩ => rfl
  have h3 : matmul dot_S512x64_S128x64_S512x128_1_1_0_0_n_n none (k0_pay5 yv) (extractStridedSlice S128x64 ![o, 0] (k0_pay4 xv) hx)
      (constant S512x128 .f32 0x00000000#32) (ValueIdx.ix2 n q) = ∑ k, rowOf xv ⟨o + q.val, by omega⟩ k * rowOf yv n k := by
    refine (Ideal.matmul_transposedRhs_apply (M := 512) (K := 64) (N := 128) none _ _ _ n q).trans ?_
    rw [show (constant S512x128 .f32 0x00000000#32 : FVec Ideal S512x128 .f32) (ValueIdx.ix2 n q) = 0 from SdtwValue.lit_zero, zero_add]
    refine Finset.sum_congr rfl (fun k _ => ?_)
    rw [mul_comm]
    refine congrArg₂ (· * ·) ?_ (drop_apply yv n k)
    refine (extractStridedSlice_apply (s := S512x64) _ _ _ _ (ValueIdx.ix2 ⟨o + q.val, by omega⟩ k) (fun a => ?_)).trans (drop_apply xv _ k)
    match a with
    | ⟨0, _⟩ => rfl
    | ⟨1, _⟩ => exact (Nat.zero_add _).symm
  show Ideal.sqrt (max (broadcastTo S512x128 (k0_pay7 yv) broadcasts_S512x1_S512x128 (ValueIdx.ix2 n q)
      + broadcastTo S512x128 (extractStridedSlice S1x128 ![0, o] (k0_pay6 k0_pay103 xv) hn) broadcasts_S1x128_S512x128 (ValueIdx.ix2 n q)
      - Ideal.ofBits .f32 0x40000000#32 * matmul dot_S512x64_S128x64_S512x128_1_1_0_0_n_n none (k0_pay5 yv) (extractStridedSlice S128x64 ![o, 0] (k0_pay4 xv) hx)
        (constant S512x128 .f32 0x00000000#32) (ValueIdx.ix2 n q)) (Ideal.ofBits .f32 0x00000000#32))
      * Named.named (F := Ideal) κ "log2e" (φ := .f32) 0x3FB8AA3B#32 = _
  rw [h1, h2, h3, SdtwValue.lit_two, SdtwValue.lit_zero, SdtwValue.named_log2e, add_comm]
  rfl

/-- A piece of a tile, rolled. -/
theorem piece_apply (o : ℕ) (ho : o ≤ 384) (hx : S512x64.Slices ![o, 0] S128x64) (hn : S1x512.Slices ![0, o] S1x128) (sh : BitVec 32) (hs : sh.toNat = o)
    (r : Fin 512) (q : Fin 128) :
    shapeCast S1x512x128 (rolls lanes (dynamicRotate 0 sh none (distM o hx hn xv yv) rotates_S512x128_d0)) shapeCasts_S512x128_S1x512x128 (ValueIdx.ix3 0 r q)
      = SdtwMath.dist (rowOf xv ⟨o + q.val, by omega⟩) (rowOf yv (rowLess r (o + q.val))) * ((SdtwMath.L2 : ℝ) : EReal) := by
  rw [lift_apply, rolls_apply (distM o hx hn xv yv) _ o ho (fun r q => rotate_apply sh o hs (by omega) _ r q), distM_apply xv yv o ho]

/-- A batch's tile. -/
theorem tileAt_apply (r q : Fin 512) :
    tileAt lanes xv yv r q = SdtwMath.dist (rowOf xv q) (rowOf yv (rowLess r q.val)) * ((SdtwMath.L2 : ℝ) : EReal) := by
  unfold tileAt
  split
  · rw [tile0_eq, piece_apply xv yv 0 (by omega) _ _ _ rfl]
    simp only [Nat.zero_add]
  · split
    · rw [tile1_eq, piece_apply xv yv 128 (by omega) _ _ _ rfl]
      simp only [show 128 + (q.val - 128) = q.val by omega]
    · split
      · rw [tile2_eq, piece_apply xv yv 256 (by omega) _ _ _ rfl]
        simp only [show 256 + (q.val - 256) = q.val by omega]
      · rw [tile3_eq, piece_apply xv yv 384 (by omega) _ _ _ rfl]
        simp only [show 384 + (q.val - 384) = q.val by omega]

end Dist

end Cert.KernelIdeal.Sdtw

end
-- ==== Proof.Math.Table.lean ====
/-
  The table of the soft-DTW recurrence over a matrix of distances: zero in the corner, infinity on the rest of the border,
  and inside the distance plus the soft minimum of the three neighbours.
-/
module

public import proofs.«01_k».proof.Proof.Math.Soft

@[expose] public section

noncomputable section

namespace Cert.SdtwMath

open Idealize.ShloMosaic

/-- The table R of the distances D. -/
def tab (D : ℕ → ℕ → EReal) : ℕ → ℕ → EReal
  | 0, 0 => 0
  | 0, _ + 1 => ⊤
  | _ + 1, 0 => ⊤
  | i + 1, j + 1 => D i j + soft (tab D i j) (tab D i (j + 1)) (tab D (i + 1) j)
termination_by i j => (i, j)

variable (D : ℕ → ℕ → EReal)

theorem tab_corner : tab D 0 0 = 0 := by rw [tab]
theorem tab_top (j : ℕ) : tab D 0 (j + 1) = ⊤ := by rw [tab]
theorem tab_left (i : ℕ) : tab D (i + 1) 0 = ⊤ := by rw [tab]
theorem tab_cell (i j : ℕ) : tab D (i + 1) (j + 1) = D i j + soft (tab D i j) (tab D i (j + 1)) (tab D (i + 1) j) := by rw [tab]

/-- No entry is minus infinity where no distance is. -/
theorem tab_ne_bot (hD : ∀ i j, D i j ≠ ⊥) : ∀ i j, tab D i j ≠ ⊥
  | 0, 0 => by rw [tab_corner]; exact EReal.zero_ne_bot
  | 0, j + 1 => by rw [tab_top]; exact top_ne_bot
  | i + 1, 0 => by rw [tab_left]; exact top_ne_bot
  | i + 1, j + 1 => by
    rw [tab_cell]
    intro h
    rcases EReal.add_eq_bot_iff.mp h with h | h
    · exact hD i j h
    · exact soft_ne_bot _ _ _ h

/-- What is left of the column of distances 0 is infinite, everywhere but at the corner. -/
theorem tab_left' {i : ℕ} (hi : 0 < i) : tab D i 0 = ⊤ := by
  obtain ⟨k, rfl⟩ := Nat.exists_eq_add_of_lt hi
  rw [Nat.zero_add]; exact tab_left D k
theorem tab_top' {j : ℕ} (hj : 0 < j) : tab D 0 j = ⊤ := by
  obtain ⟨k, rfl⟩ := Nat.exists_eq_add_of_lt hj
  rw [Nat.zero_add]; exact tab_top D k

end Cert.SdtwMath

end
-- ==== Proof.Math.Batch.lean ====
/-
  What both programs compute for one batch: the table of the distances of its rows, and the table's last entry.
-/
module

public import proofs.«01_k».proof.Proof.Math.Table
public import proofs.«01_k».proof.Proof.Math.Dist
public import Idealize.ShloMosaic.Lib.ValueIdx

@[expose] public section

noncomputable section

namespace Cert.SdtwMath

open Idealize.ShloMosaic

/-- Row `n` of batch `b` of an argument. -/
def argRow (A : (⟨3, ![64, 512, 64]⟩ : Shape).Idx → EReal) (b : Fin 64) (n : Fin 512) : Fin 64 → EReal :=
  fun k => A (ValueIdx.ix3 (n0 := 64) (n1 := 512) (n2 := 64) b n k)

/-- The costs of batch `b` of two arguments: the distance of row `x` and row `y`, the row numbers taken modulo 512. -/
def cost (A B : (⟨3, ![64, 512, 64]⟩ : Shape).Idx → EReal) (b : Fin 64) (x y : ℕ) : EReal :=
  dist (argRow A b ⟨x % 512, Nat.mod_lt _ (by decide)⟩) (argRow B b ⟨y % 512, Nat.mod_lt _ (by decide)⟩)

/-- No cost is minus infinity. -/
theorem cost_ne_bot (A B : (⟨3, ![64, 512, 64]⟩ : Shape).Idx → EReal) (b : Fin 64) (x y : ℕ) : cost A B b x y ≠ ⊥ := dist_ne_bot _ _

/-- Below 512 the row numbers are themselves. -/
theorem cost_of_lt (A B : (⟨3, ![64, 512, 64]⟩ : Shape).Idx → EReal) (b : Fin 64) (x y : Fin 512) :
    cost A B b x.val y.val = dist (argRow A b x) (argRow B b y) := by
  unfold cost
  rw [show (⟨x.val % 512, Nat.mod_lt _ (by decide)⟩ : Fin 512) = x from Fin.ext (Nat.mod_eq_of_lt x.isLt),
    show (⟨y.val % 512, Nat.mod_lt _ (by decide)⟩ : Fin 512) = y from Fin.ext (Nat.mod_eq_of_lt y.isLt)]

/-- The value of batch `b` for two arguments: the last entry of the table of its costs. -/
def sdtw (A B : (⟨3, ![64, 512, 64]⟩ : Shape).Idx → EReal) (b : Fin 64) : EReal := tab (cost A B b) 512 512

end Cert.SdtwMath

end
-- ==== Proof.Value.Rows.lean ====
/-
  What the kernel loads: for batch b of a grid point, the rows of the batch's block of each argument; and the skewed
  array in terms of the arguments' rows.
-/
module

public import proofs.«01_k».proof.Proof.KernelIdeal.Body
public import proofs.«01_k».proof.Proof.Value.Tile
public import proofs.«01_k».proof.Proof.Math.Batch

@[expose] public section

set_option maxRecDepth 16384

noncomputable section

namespace Cert.KernelIdeal.Sdtw

open Cert.KernelIdeal Cert.KernelIdeal.Gen
open Cert.SdtwMath
open Idealize.ShloMosaic Idealize.ShloMosaic.TcCoe
open Idealize.SL Idealize.SL.RA

variable (c : Dev nD) (XA : Buf (Elt Ideal) (xM.view.loc (c : Thread nD τ))) (YA : Buf (Elt Ideal) (yM.view.loc (c : Thread nD τ)))
  (i : grid0.Coords)

/-- A load of one slot, at an index, is the slot's squeezed view read at the index's last two coordinates. -/
theorem xSlot_load (s : Fin 2) (f : Buf (Elt Ideal) ((xSlot s).view.loc (c : Thread nD τ))) {off : Fin 3 → ℕ}
    (inb : ∀ a, off a + S1x512x64.size a ≤ S2x512x64.size a) (e : off = slotOff s) (n : Fin 512) (k : Fin 64) :
    xbM.view.readAt (Elt Ideal) (Rect.unit (s := S2x512x64) off S1x512x64.size inb).toLoadRect f (ValueIdx.ix3 (n0 := 1) (n1 := 512) (n2 := 64) 0 n k)
      = (xSlot s).view.read (Elt Ideal) f (ValueIdx.ix2 (n0 := 512) (n1 := 64) n k) := by
  subst e
  unfold xSlot
  rw [Memref.read_squeeze_slice xbM _ (fun _ => rfl) _ shapeCasts_S1x512x64_S512x64 f]
  refine ((shapeCast_dropUnit_apply (n := 2) ![512, 64] _ _ _).trans (congrArg _ (funext fun a => ?_))).symm
  match a with
  | ⟨0, _⟩ => rfl
  | ⟨1, _⟩ => rfl
  | ⟨2, _⟩ => rfl

theorem ySlot_load (s : Fin 2) (f : Buf (Elt Ideal) ((ySlot s).view.loc (c : Thread nD τ))) {off : Fin 3 → ℕ}
    (inb : ∀ a, off a + S1x512x64.size a ≤ S2x512x64.size a) (e : off = slotOff s) (n : Fin 512) (k : Fin 64) :
    ybM.view.readAt (Elt Ideal) (Rect.unit (s := S2x512x64) off S1x512x64.size inb).toLoadRect f (ValueIdx.ix3 (n0 := 1) (n1 := 512) (n2 := 64) 0 n k)
      = (ySlot s).view.read (Elt Ideal) f (ValueIdx.ix2 (n0 := 512) (n1 := 64) n k) := by
  subst e
  unfold ySlot
  rw [Memref.read_squeeze_slice ybM _ (fun _ => rfl) _ shapeCasts_S1x512x64_S512x64 f]
  refine ((shapeCast_dropUnit_apply (n := 2) ![512, 64] _ _ _).trans (congrArg _ (funext fun a => ?_))).symm
  match a with
  | ⟨0, _⟩ => rfl
  | ⟨1, _⟩ => rfl
  | ⟨2, _⟩ => rfl

/-- A transfer's payload, at an index: the batch's row of the argument. -/
theorem xPay_apply (b : Fin 64) (n : Fin 512) (k : Fin 64) :
    xPay c XA b (ValueIdx.ix2 (n0 := 512) (n1 := 64) n k) = XA (ValueIdx.ix3 (n0 := 64) (n1 := 512) (n2 := 64) b n k) := by
  show (xBlk b).view.read (Elt Ideal) XA _ = _
  unfold xBlk
  rw [Memref.read_squeeze_slice xM _ (fun _ => rfl) _ shapeCasts_S1x512x64_S512x64 XA]
  refine (shapeCast_dropUnit_apply (n := 2) ![512, 64] _ _ _).trans ?_
  show XA _ = XA _
  refine congrArg XA (funext fun a => Fin.ext ?_)
  match a with
  | ⟨0, _⟩ => show b.val + 1 * 0 = b.val; omega
  | ⟨1, _⟩ => show 0 + 1 * n.val = n.val; omega
  | ⟨2, _⟩ => show 0 + 1 * k.val = k.val; omega

theorem yPay_apply (b : Fin 64) (n : Fin 512) (k : Fin 64) :
    yPay c YA b (ValueIdx.ix2 (n0 := 512) (n1 := 64) n k) = YA (ValueIdx.ix3 (n0 := 64) (n1 := 512) (n2 := 64) b n k) := by
  show (yBlk b).view.read (Elt Ideal) YA _ = _
  unfold yBlk
  rw [Memref.read_squeeze_slice yM _ (fun _ => rfl) _ shapeCasts_S1x512x64_S512x64 YA]
  refine (shapeCast_dropUnit_apply (n := 2) ![512, 64] _ _ _).trans ?_
  show YA _ = YA _
  refine congrArg YA (funext fun a => Fin.ext ?_)
  match a with
  | ⟨0, _⟩ => show b.val + 1 * 0 = b.val; omega
  | ⟨1, _⟩ => show 0 + 1 * n.val = n.val; omega
  | ⟨2, _⟩ => show 0 + 1 * k.val = k.val; omega

/-- The rows the kernel loads for a batch are the argument's. -/
theorem xLoad_row (k1 : Fin k0_t1_loop.trips) (k2 : Fin k0_t2_loop.trips) (n : Fin 512) :
    rowOf (xLoad c XA i k1 k2) n = argRow XA (Ring.bk 64 (32 * (i 0).val + (8 * k1.val + k2.val))) n := by
  funext k
  refine (xSlot_load c (Ring.sl 2 (8 * k1.val + k2.val)) (xLanded c XA _ _ _) _ ((k0_off8_eq k1 k2).trans (sl_off _)) n k).trans ?_
  exact (congrFun (View.read_writes_whole (xSlot (Ring.sl 2 (8 * k1.val + k2.val))).view _ (xPay c XA _)) _).trans (xPay_apply c XA _ n k)

theorem yLoad_row (k1 : Fin k0_t1_loop.trips) (k2 : Fin k0_t2_loop.trips) (n : Fin 512) :
    rowOf (yLoad c YA i k1 k2) n = argRow YA (Ring.bk 64 (32 * (i 0).val + (8 * k1.val + k2.val))) n := by
  funext k
  refine (ySlot_load c (Ring.sl 2 (8 * k1.val + k2.val)) (yLanded c YA _ _ _) _ ((k0_off8_eq k1 k2).trans (sl_off _)) n k).trans ?_
  exact (congrFun (View.read_writes_whole (ySlot (Ring.sl 2 (8 * k1.val + k2.val))).view _ (yPay c YA _)) _).trans (yPay_apply c YA _ n k)

/-- The skewed array: entry `(s, g, p)` is batch `g`'s distance of row `p` and row `s - p` (around the end), scaled. -/
theorem skewRow_apply (o : Fin 25) (g : Fin 8) (s : ℕ) (p : Fin 512) :
    skewRow (skew c XA YA i) o s (ValueIdx.ix3 (n0 := 1) (n1 := 8) (n2 := 512) 0 g p)
      = cost XA YA (Ring.bk 64 (32 * (i 0).val + (o.val + g.val))) p.val ((s + 512 - p.val) % 512) * ((L2 : ℝ) : EReal) := by
  have ho := o.isLt
  have hg := g.isLt
  have hp := p.isLt
  show tileAt lanes (xLoad c XA i ⟨(o.val + g.val) / 8, _⟩ ⟨(o.val + g.val) % 8, _⟩) (yLoad c YA i ⟨(o.val + g.val) / 8, _⟩ ⟨(o.val + g.val) % 8, _⟩)
    ⟨s % 512, _⟩ p = _
  rw [tileAt_apply, xLoad_row, yLoad_row]
  have e : 8 * ((o.val + g.val) / 8) + (o.val + g.val) % 8 = o.val + g.val := by omega
  show dist (argRow XA (Ring.bk 64 (32 * (i 0).val + (8 * ((o.val + g.val) / 8) + (o.val + g.val) % 8))) p)
    (argRow YA (Ring.bk 64 (32 * (i 0).val + (8 * ((o.val + g.val) / 8) + (o.val + g.val) % 8))) (rowLess _ p.val)) * _ = _
  rw [e]
  unfold cost
  have e1 : (⟨p.val % 512, Nat.mod_lt _ (by decide)⟩ : Fin 512) = p := Fin.ext (Nat.mod_eq_of_lt hp)
  have e2 : (⟨(s + 512 - p.val) % 512 % 512, Nat.mod_lt _ (by decide)⟩ : Fin 512) = rowLess ⟨s % 512, Nat.mod_lt _ (by decide)⟩ p.val :=
    Fin.ext (by show (s + 512 - p.val) % 512 % 512 = (s % 512 + 512 - p.val) % 512; omega)
  rw [e1, e2]

end Cert.KernelIdeal.Sdtw
end
-- ==== Proof.Value.Recur.lean ====
/-
  What the sweeps compute at the extended reals: along an anti-diagonal, lane p of the diagonal k holds the table's entry
  (p + 1, k - p), scaled by 1 / log 2. Lanes the diagonal has not reached hold infinity, which is the table's border.
-/
module

public import proofs.«01_k».proof.Proof.KernelIdeal.Body
public import proofs.«01_k».proof.Proof.Value.Lits
public import proofs.«01_k».proof.Proof.Math.Table
public import Idealize.ShloMosaic.Lib.KernelVsHost

@[expose] public section

set_option maxRecDepth 16384

noncomputable section

namespace Cert.KernelIdeal.Sdtw

open Cert.KernelIdeal Cert.KernelIdeal.Gen
open Cert.SdtwMath
open Idealize.ShloMosaic

/-- The lane to the left, around the end. -/
def prevLane (p : Fin 512) : Fin 512 := ⟨(p.val + 511) % 512, Nat.mod_lt _ (by decide)⟩

theorem roll1_apply (x : FVec Ideal S8x512 .f32) (g : Fin 8) (p : Fin 512) : roll1 x (ValueIdx.ix2 g p) = x (ValueIdx.ix2 g (prevLane p)) := by
  refine dynamicRotate_apply (s := S8x512) 1 1#32 x _ _ _ (fun b => ?_)
  match b with
  | ⟨0, _⟩ => rfl
  | ⟨1, _⟩ =>
    rw [if_pos (show (⟨1, _⟩ : Fin S8x512.rank) = 1 from rfl)]
    show (p.val + 511) % 512 = (p.val + 512 - 1 % 512) % 512
    omega

/-- A vector's lanes, for one batch of the group. -/
def lane (v : FVec Ideal S8x512 .f32) (g : Fin 8) (p : Fin 512) : EReal := v (ValueIdx.ix2 g p)

/-- The lanes hold diagonal `k` of the table: lane `p` its entry (p + 1, k - p), scaled. -/
def On (D : ℕ → ℕ → EReal) (k : ℕ) (v : Fin 512 → EReal) : Prop := ∀ p : Fin 512, k ≤ p.val + 512 → v p = tab D (p.val + 1) (k - p.val) * (L2 : EReal)

variable (D : ℕ → ℕ → EReal) (hD : ∀ i j, D i j ≠ ⊥)

include hD in
/-- One sweep makes the next diagonal from the two before it. -/
theorem step_on (n : ℕ) (a b w : Fin 512 → EReal) (ha : On D (n + 1) a) (hb : On D n b)
    (hw : ∀ p : Fin 512, w p = D p.val ((n + 1 + 512 - p.val) % 512) * (L2 : EReal)) :
    On D (n + 2) (fun p => w p + (min (min (a (prevLane p)) (b (prevLane p))) (a p)
      - Ideal.log (Ideal.exp2 (min (min (a (prevLane p)) (b (prevLane p))) (a p) - a (prevLane p))
        + Ideal.exp2 (min (min (a (prevLane p)) (b (prevLane p))) (a p) - b (prevLane p))
        + Ideal.exp2 (min (min (a (prevLane p)) (b (prevLane p))) (a p) - a p)) * (L2 : EReal))) := by
  intro p hp
  have hp5 : p.val < 512 := p.isLt
  have htop : (⊤ : EReal) * (L2 : EReal) = ⊤ := EReal.top_mul_coe_of_pos L2_pos
  have e1 : a (prevLane p) = tab D p.val (n + 2 - p.val) * (L2 : EReal) := by
    by_cases h0 : p.val = 0
    · have hv : (prevLane p).val = 511 := by show (p.val + 511) % 512 = 511; omega
      rw [ha _ (by rw [hv]; omega), hv, h0, show n + 1 - 511 = 0 by omega, tab_left, tab_top' D (by omega)]
    · have hv : (prevLane p).val = p.val - 1 := by show (p.val + 511) % 512 = p.val - 1; omega
      rw [ha _ (by rw [hv]; omega), hv, show p.val - 1 + 1 = p.val by omega, show n + 1 - (p.val - 1) = n + 2 - p.val by omega]
  have e2 : b (prevLane p) = tab D p.val (n + 1 - p.val) * (L2 : EReal) := by
    by_cases h0 : p.val = 0
    · have hv : (prevLane p).val = 511 := by show (p.val + 511) % 512 = 511; omega
      rw [hb _ (by rw [hv]; omega), hv, h0, show n - 511 = 0 by omega, tab_left, tab_top' D (by omega)]
    · have hv : (prevLane p).val = p.val - 1 := by show (p.val + 511) % 512 = p.val - 1; omega
      rw [hb _ (by rw [hv]; omega), hv, show p.val - 1 + 1 = p.val by omega, show n - (p.val - 1) = n + 1 - p.val by omega]
  have e3 : a p = tab D (p.val + 1) (n + 1 - p.val) * (L2 : EReal) := ha p (by omega)
  dsimp only
  rw [e1, e2, e3, soft_base2 (tab_ne_bot D hD _ _) (tab_ne_bot D hD _ _) (tab_ne_bot D hD _ _) rfl, soft_comm, hw p]
  by_cases hs : p.val ≤ n + 1
  · rw [show n + 2 - p.val = (n + 1 - p.val) + 1 by omega, tab_cell, show (n + 1 + 512 - p.val) % 512 = n + 1 - p.val by omega]
    exact add_scale (hD _ _) (soft_ne_bot _ _ _)
  · rw [show n + 2 - p.val = 0 by omega, show n + 1 - p.val = 0 by omega, tab_left, tab_left' D (by omega), soft_top, htop]
    exact EReal.add_top_of_ne_bot (scale_ne_bot (hD _ _))

section Sweeps

variable (S : S512x32x512.Idx → Elt Ideal .f32) (o : Fin 25) (g : Fin 8)
  (hS : ∀ (s : ℕ) (p : Fin 512), skewRow S o s (ValueIdx.ix3 (n0 := 1) (n1 := 8) (n2 := 512) 0 g p) = D p.val ((s + 512 - p.val) % 512) * (L2 : EReal))

theorem rowV_apply (w : Vec Ideal S1x8x512 .f32) (p : Fin 512) : shapeCast S8x512 w shapeCasts_S1x8x512_S8x512 (ValueIdx.ix2 g p) = w (ValueIdx.ix3 (n0 := 1) (n1 := 8) (n2 := 512) 0 g p) :=
  shapeCast_dropUnit_apply (n := 2) ![8, 512] w shapeCasts_S1x8x512_S8x512 (ValueIdx.ix2 g p) |>.trans
    (congrArg w (funext fun a => match a with | ⟨0, _⟩ => rfl | ⟨1, _⟩ => rfl | ⟨2, _⟩ => rfl))

theorem sweepV_apply (a b : FVec Ideal S8x512 .f32) (w : Vec Ideal S1x8x512 .f32) (p : Fin 512) :
    lane (sweepV a b w) g p = w (ValueIdx.ix3 (n0 := 1) (n1 := 8) (n2 := 512) 0 g p) + (min (min (lane a g (prevLane p)) (lane b g (prevLane p))) (lane a g p)
      - Ideal.log (Ideal.exp2 (min (min (lane a g (prevLane p)) (lane b g (prevLane p))) (lane a g p) - lane a g (prevLane p))
        + Ideal.exp2 (min (min (lane a g (prevLane p)) (lane b g (prevLane p))) (lane a g p) - lane b g (prevLane p))
        + Ideal.exp2 (min (min (lane a g (prevLane p)) (lane b g (prevLane p))) (lane a g p) - lane a g p)) * (L2 : EReal)) := by
  unfold lane
  rw [← roll1_apply a g p, ← roll1_apply b g p, ← rowV_apply g w p, ← SdtwValue.named_log2e]
  rfl

/-- Lane zero alone is chosen by the first diagonal's mask. -/
theorem mask_apply (p : Fin 512) : k0_pay109 (ValueIdx.ix2 g p) = if p.val = 0 then 1#1 else 0#1 := by
  have h : ∀ p : Fin 512, BitVec.ofBool (BitVec.ofNat 32 p.val == 0#32) = if p.val = 0 then 1#1 else 0#1 := by decide +kernel
  rw [← h p]
  show BitVec.ofBool (iota .tc S8x512 32 [1] _ (ValueIdx.ix2 g p) == 0#32) = _
  rw [iota_single_apply]

include hS in
theorem diag_first : On D 1 (lane (diag0 S o).1 g) := by
  intro p hp
  have htop : (⊤ : EReal) * (L2 : EReal) = ⊤ := EReal.top_mul_coe_of_pos L2_pos
  have key : lane (diag0 S o).1 g p = if p.val = 0 then skewRow S o 0 (ValueIdx.ix3 (n0 := 1) (n1 := 8) (n2 := 512) 0 g p) else ⊤ := by
    show (if k0_pay109 (ValueIdx.ix2 g p) = 1 then shapeCast S8x512 (skewRow S o 0) shapeCasts_S1x8x512_S8x512 (ValueIdx.ix2 g p)
      else Named.named (F := Ideal) κ "big" (φ := .f32) 0x501502F9#32) = _
    rw [mask_apply, rowV_apply, SdtwValue.named_big]
    by_cases h : p.val = 0
    · rw [if_pos h, if_pos h]; rfl
    · rw [if_neg h, if_neg h]; rfl
  rw [key]
  by_cases h : p.val = 0
  · rw [if_pos h, hS, h, tab_cell, tab_corner, tab_top, tab_left, soft_zero, add_zero]
  · rw [if_neg h, show 1 - p.val = 0 by omega, tab_left, htop]

theorem diag_before : On D 0 (lane (diag0 S o).2 g) := by
  intro p hp
  rw [Nat.zero_sub, tab_left, EReal.top_mul_coe_of_pos L2_pos]
  exact SdtwValue.named_big

include hD hS in
/-- After `n` sweeps: the diagonal `n + 1` and the one before it. -/
theorem sweeps_on : ∀ n, On D (n + 1) (lane (sweeps S o (diag0 S o) n).1 g) ∧ On D n (lane (sweeps S o (diag0 S o) n).2 g)
  | 0 => ⟨diag_first D S o g hS, diag_before D S o g⟩
  | n + 1 => by
    obtain ⟨h1, h2⟩ := sweeps_on n
    refine ⟨?_, h1⟩
    have h := step_on D hD n _ _ (fun p => skewRow S o (n + 1) (ValueIdx.ix3 (n0 := 1) (n1 := 8) (n2 := 512) 0 g p)) h1 h2 (fun p => hS (n + 1) p)
    intro p hp
    exact (sweepV_apply g _ _ _ p).trans (h p hp)

include hD hS in
/-- A group's result for its batch `g` is the table's last entry. -/
theorem result_apply : k0_pay137 (lastDiag S o) (ValueIdx.ix2 g 0) = tab D 512 512 := by
  have h := (sweeps_on D hD S o g hS 1022).1 511 (by decide)
  have e : extractStridedSlice S8x1 ![0, 511] (lastDiag S o) slices_S8x512_o0_511_S8x1 (ValueIdx.ix2 g 0) = lane (lastDiag S o) g 511 := by
    refine extractStridedSlice_apply (s := S8x512) _ _ _ _ (ValueIdx.ix2 g 511) (fun a => ?_)
    match a with
    | ⟨0, _⟩ => exact (Nat.zero_add _).symm
    | ⟨1, _⟩ => rfl
  show extractStridedSlice S8x1 ![0, 511] (lastDiag S o) slices_S8x512_o0_511_S8x1 (ValueIdx.ix2 g 0) * Named.named (F := Ideal) κ "ln2" (φ := .f32) 0x3F317218#32 = _
  rw [e, h, SdtwValue.named_ln2, scale_back]
  rfl

end Sweeps

end Cert.KernelIdeal.Sdtw

end
-- ==== Proof.Value.Output.lean ====
/-
  What the kernel's program ends with: entry b of the result is the table's last entry for batch b's costs.
-/
module

public import proofs.«01_k».proof.Proof.KernelIdeal.Launch
public import proofs.«01_k».proof.Proof.Value.Rows
public import proofs.«01_k».proof.Proof.Value.Recur
public import Idealize.ShloMosaic.Lib.Pipeline.ValueKit.Geometry
public import Idealize.ShloMosaic.Lib.WritesUnit

@[expose] public section

set_option maxRecDepth 16384

noncomputable section

namespace Cert.KernelIdeal.Sdtw

open Cert.KernelIdeal Cert.KernelIdeal.Gen
open Cert.SdtwMath
open Idealize.ShloMosaic Idealize.ShloMosaic.TcCoe
open Idealize.SL Idealize.SL.RA Idealize.SL.Sem

/-- Entry `r` of a block of outputs is written by the store of the group of eight entries it falls into. -/
theorem outBlock_apply (S : S512x32x512.Idx → Elt Ideal .f32) (P : Fin 32 → EReal)
    (hP : ∀ (o : Fin 25) (g : Fin 8), k0_pay137 (lastDiag S o) (ValueIdx.ix2 (n0 := 8) (n1 := 1) g 0) = P ⟨o.val + g.val, by omega⟩)
    (y : S32x1.Idx) : outBlock S y = P (y 0) := by
  have h0 : (y 0).val < 32 := (y 0).isLt
  have h1 : (y 1).val < 1 := (y 1).isLt
  have key : ∀ (o : Fin 25) (h : o.val ≤ (y 0).val) (h' : (y 0).val < o.val + 8),
      k0_pay137 (lastDiag S o) (ValueIdx.ix2 (n0 := 8) (n1 := 1) ⟨(y 0).val - o.val, by omega⟩ 0) = P (y 0) := fun o h h' =>
    (hP o ⟨(y 0).val - o.val, by omega⟩).trans (congrArg P (Fin.ext (by show o.val + ((y 0).val - o.val) = (y 0).val; omega)))
  unfold outBlock outL
  by_cases h3 : 24 ≤ (y 0).val
  · refine (View.read_writes_cons_unit_of_mem _ _ _ _ _ y (ValueIdx.ix2 (n0 := 8) (n1 := 1) ⟨(y 0).val - 24, by omega⟩ 0) rfl (fun a => ?_)).trans (key 24 h3 (by show _ < 24 + 8; omega))
    match a with
    | ⟨0, _⟩ => show (y 0).val = 24 + ((y 0).val - 24); omega
    | ⟨1, _⟩ => show (y 1).val = 0 + 0; omega
  rw [View.read_writes_cons_unit_of_not_mem (s := S32x1) (size := S8x1.size) _ _ _ _ _ y rfl (0 : Fin 2) (Or.inl (show (y 0).val < 24 by omega))]
  by_cases h2 : 16 ≤ (y 0).val
  · refine (View.read_writes_cons_unit_of_mem _ _ _ _ _ y (ValueIdx.ix2 (n0 := 8) (n1 := 1) ⟨(y 0).val - 16, by omega⟩ 0) rfl (fun a => ?_)).trans (key 16 h2 (by show _ < 16 + 8; omega))
    match a with
    | ⟨0, _⟩ => show (y 0).val = 16 + ((y 0).val - 16); omega
    | ⟨1, _⟩ => show (y 1).val = 0 + 0; omega
  rw [View.read_writes_cons_unit_of_not_mem (s := S32x1) (size := S8x1.size) _ _ _ _ _ y rfl (0 : Fin 2) (Or.inl (show (y 0).val < 16 by omega))]
  by_cases h1' : 8 ≤ (y 0).val
  · refine (View.read_writes_cons_unit_of_mem _ _ _ _ _ y (ValueIdx.ix2 (n0 := 8) (n1 := 1) ⟨(y 0).val - 8, by omega⟩ 0) rfl (fun a => ?_)).trans (key 8 h1' (by show _ < 8 + 8; omega))
    match a with
    | ⟨0, _⟩ => show (y 0).val = 8 + ((y 0).val - 8); omega
    | ⟨1, _⟩ => show (y 1).val = 0 + 0; omega
  rw [View.read_writes_cons_unit_of_not_mem (s := S32x1) (size := S8x1.size) _ _ _ _ _ y rfl (0 : Fin 2) (Or.inl (show (y 0).val < 8 by omega))]
  refine (View.read_writes_cons_unit_of_mem _ _ _ _ _ y (ValueIdx.ix2 (n0 := 8) (n1 := 1) ⟨(y 0).val - 0, by omega⟩ 0) rfl (fun a => ?_)).trans (key 0 (Nat.zero_le _) (by show _ < 0 + 8; omega))
  match a with
  | ⟨0, _⟩ => show (y 0).val = 0 + ((y 0).val - 0); omega
  | ⟨1, _⟩ => show (y 1).val = 0 + 0; omega

section Array

variable (m : (ℓ : Loc nD τ sig) → Buf (Elt Ideal) ℓ) (c : Dev nD)

/-- What point `t` writes, at an entry. -/
theorem outAt_apply (t : Fin cfg0.N) (y : S32x1.Idx) :
    outAt m c t y = sdtw (V m c main_arg0) (V m c main_arg1) (Ring.bk 64 (32 * (grid0.coords t 0).val + (y 0).val)) := by
  unfold outAt
  refine outBlock_apply _ (fun r => sdtw (V m c main_arg0) (V m c main_arg1) (Ring.bk 64 (32 * (grid0.coords t 0).val + r.val))) (fun o g => ?_) y
  exact result_apply _ (cost_ne_bot _ _ _) _ o g (fun s p => skewRow_apply c _ _ _ o g s p)

theorem index_eq : ∀ t : Fin cfg0.N, win0_0.index t = ![(grid0.coords t 0).val, 0] := (by decide +kernel : ∀ t : Fin grid0.N, _)

/-- The array the region writes: every batch's value. -/
theorem array_eq : (dats m 0 c).arrAt 0 cfg0.N = fun j : S64x1.Idx => sdtw (V m c main_arg0) (V m c main_arg1) (j 0) := by
  refine (dats m 0 c).arrAt_eq_of_covers 0 _ (by decide +kernel) fun t hf y => ?_
  blk_simp
  rw [after0_0]
  refine (outAt_apply m c t y).trans (congrArg _ (Fin.ext ?_))
  have h0 : (y 0).val < 32 := (y 0).isLt
  have h1 : (grid0.coords t 0).val < 2 := (grid0.coords t 0).isLt
  rw [Ring.bk_val (by omega)]
  blk_simp [index_eq]
  show _ = (grid0.coords t 0).val * 32 + (y 0).val
  omega

/-- The program's result: entry `b` is batch `b`'s value. -/
theorem W_v0 : Pipeline.afterTail₀ cfgs (dats m) 0 (V0 m) [hostOps1] c main_v0
    = fun j : S64.Idx => sdtw (m ((c : Thread nD τ).loc main_arg0)) (m ((c : Thread nD τ).loc main_arg1)) (j 0) := by
  have e : Pipeline.withArrays (cfgs (0 : Fin 1)).spec c (V0 m c) (fun w => (dats m 0 c).arrAt w (cfgs (0 : Fin 1)).N) (Proc.devRef .tc main_call0_v0)
      = fun j : S64x1.Idx => sdtw (V m c main_arg0) (V m c main_arg1) (j 0) :=
    (Pipeline.withArrays_arr spec0 (by decide) c (V0 m c) (fun w => (dats m 0 c).arrAt w cfg0.N) 0).trans (array_eq m c)
  unfold Pipeline.afterTail₀
  simp only [hostOps1, List.flatten_cons, List.flatten_nil, List.append_nil, StableHlo.after_cons, StableHlo.after_nil]
  refine (StableHlo.reshape_result main_call0_v0 main_v0 _ _ _ _ _).trans ?_
  rw [e]
  funext j
  refine (shapeCast_apply _ _ j (ValueIdx.ix2 (n0 := 64) (n1 := 1) (j 0) 0) ?_).trans rfl
  refine (rowMajor_val2 (d := ![64, 1]) (ValueIdx.ix2 (n0 := 64) (n1 := 1) (j 0) 0) 1 rfl).trans (Eq.trans ?_ (rowMajor_val1 (d := ![64]) j).symm)
  show (j 0).val * 1 + 0 = (j 0).val
  omega

end Array
end Cert.KernelIdeal.Sdtw
end
-- ==== Proof.Value.RefStep.lean ====
/-
  One trip of the reference's loop at the extended reals: trip 512 i + j fills cell (i + 1, j + 1) of every batch's table
  with the distance plus the soft minimum of the three neighbours, and changes nothing else.
-/
module

public import proofs.«01_k».proof.Proof.Gen.ReferenceIdeal.Run
public import proofs.«01_k».proof.Proof.Value.Lits
public import proofs.«01_k».proof.Proof.Math.Soft
public import Idealize.ShloMosaic.Lib.Routing.Words
public import Idealize.ShloMosaic.Lib.WordCmp
public import Idealize.ShloMosaic.Lib.Pipeline.Value
public import Idealize.ShloMosaic.Lib.Pointwise.Reduce
public import Idealize.ShloMosaic.Lib.Pointwise.Reshape

@[expose] public section

set_option maxRecDepth 16384

noncomputable section

namespace Cert.ReferenceIdeal.Sdtw

open Cert.ReferenceIdeal Cert.ReferenceIdeal.Gen Cert.ReferenceIdeal.Value
open Cert.SdtwMath Cert.SdtwValue
open Idealize.ShloMosaic Idealize.ShloMosaic.TcCoe

/-- The words of three starts, as the loop passes them. -/
abbrev starts (x y : IVec S_ 32) : Fin 3 → Int :=
  fun k => (((![constantI S_ 32 0#32, x, y] : Fin 3 → (⟨S_, .i32⟩ : BufTy).Contents (Elt Ideal))) k (Shape.Idx.first h_S_)).toInt

/-- The word of `n` at every index. -/
abbrev word (n : ℕ) : IVec S_ 32 := fun _ => BitVec.ofNat 32 n

theorem word_toInt (n : ℕ) (h : n ≤ 600) : (BitVec.ofNat 32 n).toInt = (n : Int) := by
  rw [BitVec.toInt_ofNat']
  exact Int.bmod_eq_of_le (by omega) (by omega)

theorem starts_eq (i j : ℕ) (hi : i ≤ 600) (hj : j ≤ 600) (a : Fin 3) : starts (word i) (word j) a = ((![0, i, j] : Fin 3 → ℕ) a : Int) := by
  match a with
  | ⟨0, _⟩ => rfl
  | ⟨1, _⟩ => exact word_toInt i hi
  | ⟨2, _⟩ => exact word_toInt j hj

theorem fits (n i j : ℕ) (hi : i < n) (hj : j < n) : (⟨3, ![64, n, n]⟩ : Shape).Slices ![0, i, j] S64x1x1 :=
  ⟨rfl, fun a => by
    match a with
    | ⟨0, _⟩ => show 0 + 64 ≤ 64; omega
    | ⟨1, _⟩ => show i + 1 ≤ n; omega
    | ⟨2, _⟩ => show j + 1 ≤ n; omega⟩

/-- One cell of every batch, flattened to the batches: entry `b` is the table's cell `(i, j)` of batch `b`. -/
theorem cell_read (n i j : ℕ) (hi : i < n) (hj : j < n) (hn : n ≤ 600) (A : (⟨3, ![64, n, n]⟩ : Shape).Idx → EReal)
    (h : (⟨3, ![64, n, n]⟩ : Shape).Slices (fun _ => 0) S64x1x1) (b : S64.Idx) :
    shapeCast S64 (Host.dynamicSlice S64x1x1 A (starts (word i) (word j)) h) shapeCasts_S64x1x1_S64 b
      = A (ValueIdx.ix3 (n0 := 64) (n1 := n) (n2 := n) (b 0) ⟨i, hi⟩ ⟨j, hj⟩) := by
  rw [WordCmp.dynamicSlice_eq_extract S64x1x1 A _ h ![0, i, j] (fits n i j hi hj) (starts_eq i j (by omega) (by omega))]
  refine (shapeCast_apply _ _ b (ValueIdx.ix3 (n0 := 64) (n1 := 1) (n2 := 1) (b 0) 0 0) ?_).trans ?_
  · refine (rowMajor_val3 (d := ![64, 1, 1]) (ValueIdx.ix3 (n0 := 64) (n1 := 1) (n2 := 1) (b 0) 0 0) 1 1 rfl rfl).trans (Eq.trans ?_ (rowMajor_val1 (d := ![64]) b).symm)
    show (b 0).val * (1 * 1) + (0 * 1 + 0) = (b 0).val
    omega
  · refine extractStridedSlice_apply _ A _ _ _ (fun a => ?_)
    match a with
    | ⟨0, _⟩ => exact (Nat.zero_add _).symm
    | ⟨1, _⟩ => rfl
    | ⟨2, _⟩ => rfl

/-- One cell of every batch written: cell `(p, q)` of batch `b` becomes entry `b`, every other cell stays. -/
theorem cell_write (p q : ℕ) (hp : p < 513) (hq : q < 513) (A : S64x513x513.Idx → EReal) (v : S64.Idx → EReal)
    (b : Fin 64) (x y : Fin 513) :
    Host.dynamicUpdateSlice A (shapeCast S64x1x1 v shapeCasts_S64_S64x1x1) (starts (word p) (word q)) updateFits_S64x513x513_S64x1x1
        (ValueIdx.ix3 (n0 := 64) (n1 := 513) (n2 := 513) b x y)
      = if x.val = p ∧ y.val = q then v (ValueIdx.ix1 (n := 64) b) else A (ValueIdx.ix3 (n0 := 64) (n1 := 513) (n2 := 513) b x y) := by
  have hb := b.isLt
  rw [WordCmp.dynamicUpdateSlice_eq_update A _ _ _ ![0, p, q] (fits 513 p q hp hq) (starts_eq p q (by omega) (by omega))]
  unfold updateSlice
  by_cases h : x.val = p ∧ y.val = q
  · rw [if_pos h, dif_pos]
    · refine (shapeCast_apply _ _ _ (ValueIdx.ix1 (n := 64) b) ?_).trans rfl
      refine (rowMajor_val1 (d := ![64]) (ValueIdx.ix1 (n := 64) b)).trans (Eq.trans ?_ (rowMajor_val3 (d := ![64, 1, 1]) _ 1 1 rfl rfl).symm)
      show b.val = (b.val - 0) * 1 + (x.val - p) * 1 + (y.val - q)
      omega
    · intro a
      match a with
      | ⟨0, _⟩ => exact ⟨Nat.zero_le _, (show b.val < 0 + 64 by omega)⟩
      | ⟨1, _⟩ => exact ⟨(show p ≤ x.val by omega), (show x.val < p + 1 by omega)⟩
      | ⟨2, _⟩ => exact ⟨(show q ≤ y.val by omega), (show y.val < q + 1 by omega)⟩
  · rw [if_neg h, dif_neg]
    intro H
    have h1 : p ≤ x.val ∧ x.val < p + 1 := H 1
    have h2 : q ≤ y.val ∧ y.val < q + 1 := H 2
    exact h ⟨by omega, by omega⟩

theorem foldl_max_ne_top {ι : Type} (f : ι → EReal) (hf : ∀ i, f i ≠ ⊤) : ∀ (l : List ι) (a : EReal), a ≠ ⊤ → l.foldl (fun r i => max r (f i)) a ≠ ⊤
  | [], a, ha => ha
  | i :: l, a, ha => foldl_max_ne_top f hf l _ (by
      show max a (f i) ≠ ⊤
      rcases max_choice a (f i) with e | e
      · rw [e]; exact ha
      · rw [e]; exact hf i)

theorem word_succ (n : ℕ) : addi (word n) (constantI S_ 32 1#32) = word (n + 1) := by
  funext b
  show BitVec.ofNat 32 n + BitVec.ofNat 32 1 = BitVec.ofNat 32 (n + 1)
  exact (BitVec.ofNat_add n 1).symm

/-- The three neighbours of the cell the trip fills: above and left, above, left. -/
def nbr (i j : ℕ) (hi : i < 512) (hj : j < 512) (T : S64x513x513.Idx → EReal) (b : Fin 64) : Fin 3 → EReal :=
  ![T (ValueIdx.ix3 (n0 := 64) (n1 := 513) (n2 := 513) b ⟨i, by omega⟩ ⟨j, by omega⟩),
    T (ValueIdx.ix3 (n0 := 64) (n1 := 513) (n2 := 513) b ⟨i, by omega⟩ ⟨j + 1, by omega⟩),
    T (ValueIdx.ix3 (n0 := 64) (n1 := 513) (n2 := 513) b ⟨i + 1, by omega⟩ ⟨j, by omega⟩)]

/-- Three rows stacked, at an index. -/
theorem stack_apply (x0 x1 x2 : S1x64.Idx → EReal) (h : Shape.Concatenates [S1x64, S1x64, S1x64] S3x64 0) (r : Fin 3) (b : Fin 64) :
    concatenate S3x64 0 [⟨S1x64, x0⟩, ⟨S1x64, x1⟩, ⟨S1x64, x2⟩] h (ValueIdx.ix2 (n0 := 3) (n1 := 64) r b)
      = (![x0, x1, x2] : Fin 3 → S1x64.Idx → EReal) r (ValueIdx.ix2 (n0 := 1) (n1 := 64) 0 b) := by
  have off : ∀ a : Fin 2, a ≠ 0 → (ValueIdx.ix2 (n0 := 1) (n1 := 64) 0 b a).val = (ValueIdx.ix2 (n0 := 3) (n1 := 64) r b a).val := fun a ha => by
    match a with
    | ⟨0, _⟩ => exact absurd rfl ha
    | ⟨1, _⟩ => rfl
  have hl : [(⟨S1x64, x0⟩ : (s : Shape) × (s.Idx → EReal)), ⟨S1x64, x1⟩, ⟨S1x64, x2⟩].length = 3 := rfl
  match r with
  | ⟨0, _⟩ => exact concatenate_apply_piece (t := S3x64) 0 [⟨S1x64, x0⟩, ⟨S1x64, x1⟩, ⟨S1x64, x2⟩] h _ 0 (by rw [hl]; omega) S1x64 x0 rfl rfl 0 rfl (ValueIdx.ix2 (n0 := 1) (n1 := 64) 0 b) off rfl
  | ⟨1, _⟩ => exact concatenate_apply_piece (t := S3x64) 0 [⟨S1x64, x0⟩, ⟨S1x64, x1⟩, ⟨S1x64, x2⟩] h _ 1 (by rw [hl]; omega) S1x64 x1 rfl rfl 1 rfl (ValueIdx.ix2 (n0 := 1) (n1 := 64) 0 b) off rfl
  | ⟨2, _⟩ => exact concatenate_apply_piece (t := S3x64) 0 [⟨S1x64, x0⟩, ⟨S1x64, x1⟩, ⟨S1x64, x2⟩] h _ 2 (by rw [hl]; omega) S1x64 x2 rfl rfl 2 rfl (ValueIdx.ix2 (n0 := 1) (n1 := 64) 0 b) off rfl

section Step

variable (V0 : Valuation τ sig (Elt Ideal)) (i j : ℕ) (hi : i < 512) (hj : j < 512) (hV : V0 (Proc.devRef .tc main_v22_2) = word (512 * i + j))

/-- The table before the trip, and the distances. -/
abbrev tbl : S64x513x513.Idx → EReal := V0 (Proc.devRef .tc main_v22_3)
abbrev dst : S64x512x512.Idx → EReal := V0 (Proc.devRef .tc main_v22_0)

include hi hj hV in
theorem v26_eq : res_main_while0b_v26 V0 = word i := by
  unfold res_main_while0b_v26
  rw [hV]
  funext b
  refine (Routing.divsi_word .host (a := 512 * i + j) (b := 512) (by omega) (by omega) (by omega)).trans ?_
  rw [show (512 * i + j) / 512 = i by omega]

include hi hj hV in
theorem v27_eq : res_main_while0b_v27 V0 = word j := by
  unfold res_main_while0b_v27
  rw [hV]
  funext b
  refine (Routing.remsi_word .host (a := 512 * i + j) (b := 512) (by omega) (by omega) (by omega)).trans ?_
  rw [show (512 * i + j) % 512 = j by omega]

include hV in
/-- A row of the stack of neighbours. -/
theorem v41_apply (r : Fin 3) (b : Fin 64) : res_main_while0b_v41 V0 (ValueIdx.ix2 (n0 := 3) (n1 := 64) r b) = nbr i j hi hj (tbl V0) b r := by
  unfold res_main_while0b_v41
  rw [v26_eq V0 i j hi hj hV, v27_eq V0 i j hi hj hV, word_succ, word_succ]
  have row : ∀ x : FVec Ideal S64 .f32, broadcastInDim S1x64 ![1] bcast_S64_S1x64_1 x (ValueIdx.ix2 (n0 := 1) (n1 := 64) 0 b) = x (ValueIdx.ix1 (n := 64) b) := fun x =>
    broadcastInDim_apply _ _ x _ _ (fun a => by
      match a with
      | ⟨0, _⟩ => exact (if_neg (show ¬ (64 = 1) by omega)).symm)
  refine (stack_apply _ _ _ _ r b).trans ?_
  match r with
  | ⟨0, _⟩ => exact (row _).trans (cell_read 513 i j (by omega) (by omega) (by omega) (tbl V0) sliceFits_S64x513x513_S64x1x1 (ValueIdx.ix1 (n := 64) b))
  | ⟨1, _⟩ => exact (row _).trans (cell_read 513 i (j + 1) (by omega) (by omega) (by omega) (tbl V0) sliceFits_S64x513x513_S64x1x1 (ValueIdx.ix1 (n := 64) b))
  | ⟨2, _⟩ => exact (row _).trans (cell_read 513 (i + 1) j (by omega) (by omega) (by omega) (tbl V0) sliceFits_S64x513x513_S64x1x1 (ValueIdx.ix1 (n := 64) b))

/-- Whether a number's absolute value is infinity, for one that is not minus infinity. -/
theorem abs_top (a : EReal) (ha : a ≠ ⊥) : (max a (-a) = ⊤) ↔ a = ⊤ := by
  constructor
  · intro h
    rcases max_choice a (-a) with e | e
    · rwa [e] at h
    · rw [e] at h; exact absurd (EReal.neg_eq_top_iff.mp h) ha
  · rintro rfl; exact max_eq_left le_top

theorem div_one (a : EReal) : Ideal.div a ((1 : ℝ) : EReal) = a := by
  unfold Ideal.div
  rw [if_neg (by norm_num)]
  rw [← EReal.coe_inv, inv_one, EReal.coe_one, mul_one]

include hV in
/-- A row of the stack the exponentials take: the negated neighbour. -/
theorem v46_apply (hN : ∀ b r, nbr i j hi hj (tbl V0) b r ≠ ⊥) (r : Fin 3) (b : Fin 64) :
    res_main_while0b_v46 V0 (ValueIdx.ix2 (n0 := 3) (n1 := 64) r b) = - nbr i j hi hj (tbl V0) b r := by
  unfold res_main_while0b_v46
  have hb := hN b r
  show Ideal.div (- Scalar.select (Ideal.cmp .oeq (max (α := EReal) (res_main_while0b_v41 V0 (ValueIdx.ix2 (n0 := 3) (n1 := 64) r b)) (Neg.neg (α := EReal) (res_main_while0b_v41 V0 (ValueIdx.ix2 (n0 := 3) (n1 := 64) r b))))
    (Ideal.ofBits .f32 0x7F800000#32)) (Ideal.ofBits .f32 0x7F800000#32) (res_main_while0b_v41 V0 (ValueIdx.ix2 (n0 := 3) (n1 := 64) r b))) (Ideal.ofBits .f32 0x3F800000#32) = _
  rw [v41_apply V0 i j hi hj hV, lit_inf, lit_one, div_one]
  refine congrArg Neg.neg ?_
  unfold Ideal.cmp Scalar.select
  by_cases h : nbr i j hi hj (tbl V0) b r = ⊤
  · rw [h]; split <;> rfl
  · rw [if_neg]
    show ¬ (BitVec.ofBool (decide (max _ _ = ⊤)) = 1)
    rw [decide_eq_false (fun e => h ((abs_top _ hb).mp e))]
    decide

include hV in
/-- The largest of the negated neighbours is not plus infinity. -/
theorem v48_ne_top (hN : ∀ b r, nbr i j hi hj (tbl V0) b r ≠ ⊥) (b : Fin 64) : res_main_while0b_v48 V0 (ValueIdx.ix2 (n0 := 1) (n1 := 64) 0 b) ≠ (⊤ : EReal) := by
  unfold res_main_while0b_v48
  rw [broadcastInDim_apply _ bcast_S64_S1x64_1 _ (ValueIdx.ix2 (n0 := 1) (n1 := 64) 0 b) (ValueIdx.ix1 (n := 64) b) (fun a => by
      match a with
      | ⟨0, _⟩ => exact (if_neg (show ¬ (64 = 1) by omega)).symm), Host.reduce_eq_foldl]
  refine foldl_max_ne_top (fun x : S3x64.Idx => res_main_while0b_v46 V0 x) (fun x => ?_) _ _ ?_
  · have e : x = ValueIdx.ix2 (n0 := 3) (n1 := 64) (x 0) (x 1) := funext fun a => match a with
      | ⟨0, _⟩ => rfl
      | ⟨1, _⟩ => rfl
    have H : ∀ (r : Fin 3) (b : Fin 64), res_main_while0b_v46 V0 (ValueIdx.ix2 (n0 := 3) (n1 := 64) r b) ≠ (⊤ : EReal) := fun r b => by
      rw [v46_apply V0 i j hi hj hV hN]
      exact fun h => hN _ _ (EReal.neg_eq_top_iff.mp h)
    rw [e]
    exact H (x 0) (x 1)
  · show Ideal.ofBits .f32 0xFF800000#32 ≠ ⊤
    rw [lit_neg_inf]; exact bot_ne_top

include hV in
/-- The shift the exponentials take is a real number. -/
theorem v51_real (hN : ∀ b r, nbr i j hi hj (tbl V0) b r ≠ ⊥) (b : Fin 64) : ∃ μ : ℝ, res_main_while0b_v51 V0 (ValueIdx.ix2 (n0 := 1) (n1 := 64) 0 b) = (μ : EReal) := by
  have h := v48_ne_top V0 i j hi hj hV hN b
  unfold res_main_while0b_v51
  show ∃ μ : ℝ, Scalar.select (Ideal.cmp .oeq (max (α := EReal) (res_main_while0b_v48 V0 (ValueIdx.ix2 (n0 := 1) (n1 := 64) 0 b)) (Neg.neg (α := EReal) (res_main_while0b_v48 V0 (ValueIdx.ix2 (n0 := 1) (n1 := 64) 0 b))))
    (Ideal.ofBits .f32 0x7F800000#32)) (Ideal.ofBits .f32 0x00000000#32) (res_main_while0b_v48 V0 (ValueIdx.ix2 (n0 := 1) (n1 := 64) 0 b)) = (μ : EReal)
  rw [lit_inf, lit_zero]
  revert h
  generalize (res_main_while0b_v48 V0 (ValueIdx.ix2 (n0 := 1) (n1 := 64) 0 b) : EReal) = a
  intro h
  unfold Ideal.cmp Scalar.select
  induction a using EReal.rec with
  | bot => exact ⟨0, by rw [if_pos (show BitVec.ofBool (decide (max (⊥ : EReal) (-⊥) = ⊤)) = 1 by simp)]; rfl⟩
  | top => exact absurd rfl h
  | coe r =>
    refine ⟨r, if_neg ?_⟩
    show ¬ (BitVec.ofBool (decide (max _ _ = ⊤)) = 1)
    rw [decide_eq_false (fun e => EReal.coe_ne_top r ((abs_top _ (EReal.coe_ne_bot r)).mp e))]
    decide

include hV in
/-- One trip's table: the filled cell takes the distance plus the soft minimum of its neighbours, every other cell stays. -/
theorem step_apply (hN : ∀ b r, nbr i j hi hj (tbl V0) b r ≠ ⊥) (b : Fin 64) (x y : Fin 513) :
    step_main_v22_3 V0 (ValueIdx.ix3 (n0 := 64) (n1 := 513) (n2 := 513) b x y)
      = if x.val = i + 1 ∧ y.val = j + 1 then
          dst V0 (ValueIdx.ix3 (n0 := 64) (n1 := 512) (n2 := 512) b ⟨i, hi⟩ ⟨j, hj⟩)
            + soft (nbr i j hi hj (tbl V0) b 0) (nbr i j hi hj (tbl V0) b 1) (nbr i j hi hj (tbl V0) b 2)
        else tbl V0 (ValueIdx.ix3 (n0 := 64) (n1 := 513) (n2 := 513) b x y) := by
  unfold step_main_v22_3
  rw [v26_eq V0 i j hi hj hV, v27_eq V0 i j hi hj hV, word_succ, word_succ, id]
  refine (cell_write (i + 1) (j + 1) (by omega) (by omega) (tbl V0) _ b x y).trans ?_
  split
  swap
  · rfl
  obtain ⟨μ, hμ⟩ := v51_real V0 i j hi hj hV hN b
  refine Eq.trans (congrArg₂ (fun p q : EReal => p + q) (cell_read 512 i j hi hj (by omega) (dst V0) sliceFits_S64x512x512_S64x1x1 (ValueIdx.ix1 (n := 64) b)) ?_) rfl
  have hsum : Host.reduceAdd (Host.exp (subf (res_main_while0b_v46 V0) (broadcastInDim S3x64 ![0, 1] bcast_S1x64_S3x64_0_1 (res_main_while0b_v51 V0))))
      (constant (F := Ideal) S_ .f32 0x00000000#32) reducesTo_S3x64_S64_d0 h_S_ (ValueIdx.ix1 (n := 64) b)
      = Ideal.exp (-nbr i j hi hj (tbl V0) b 0 - (μ : EReal)) + Ideal.exp (-nbr i j hi hj (tbl V0) b 1 - (μ : EReal)) + Ideal.exp (-nbr i j hi hj (tbl V0) b 2 - (μ : EReal)) := by
    refine (Ideal.hostReduceAdd_r2_a0 reducesTo_S3x64_S64_d0 _ _ (ValueIdx.ix1 (n := 64) b)).trans ?_
    show Ideal.ofBits .f32 0x00000000#32 + _ = _
    rw [lit_zero, zero_add, Fin.sum_univ_three]
    have term : ∀ r : Fin 3, Host.exp (subf (res_main_while0b_v46 V0) (broadcastInDim S3x64 ![0, 1] bcast_S1x64_S3x64_0_1 (res_main_while0b_v51 V0))) (ValueIdx.ix2 (n0 := 3) (n1 := 64) r b)
        = Ideal.exp (-nbr i j hi hj (tbl V0) b r - (μ : EReal)) := fun r => by
      show Ideal.exp (Sub.sub (α := EReal) (res_main_while0b_v46 V0 (ValueIdx.ix2 (n0 := 3) (n1 := 64) r b)) (broadcastInDim S3x64 ![0, 1] bcast_S1x64_S3x64_0_1 (res_main_while0b_v51 V0) (ValueIdx.ix2 (n0 := 3) (n1 := 64) r b))) = _
      rw [v46_apply V0 i j hi hj hV hN, broadcastInDim_apply _ bcast_S1x64_S3x64_0_1 _ (ValueIdx.ix2 (n0 := 3) (n1 := 64) r b) (ValueIdx.ix2 (n0 := 1) (n1 := 64) 0 b) (fun a => by
        match a with
        | ⟨0, _⟩ => exact (if_pos (show 1 = 1 from rfl)).symm
        | ⟨1, _⟩ => exact (if_neg (show ¬ (64 = 1) by omega)).symm), hμ]
      rfl
    exact congrArg₂ (fun p q : EReal => p + q) (congrArg₂ (fun p q : EReal => p + q) (term 0) (term 1)) (term 2)
  have hcast : shapeCast S64 (res_main_while0b_v51 V0) shapeCasts_S1x64_S64 (ValueIdx.ix1 (n := 64) b) = (μ : EReal) := by
    refine (shapeCast_apply _ _ (ValueIdx.ix1 (n := 64) b) (ValueIdx.ix2 (n0 := 1) (n1 := 64) 0 b) ?_).trans hμ
    refine (rowMajor_val2 (d := ![1, 64]) (ValueIdx.ix2 (n0 := 1) (n1 := 64) 0 b) 64 rfl).trans (Eq.trans ?_ (rowMajor_val1 (d := ![64]) (ValueIdx.ix1 (n := 64) b)).symm)
    show 0 * 64 + b.val = b.val
    omega
  rw [← soft_shifted (hN b 0) (hN b 1) (hN b 2) μ, ← hsum, ← hcast, ← lit_neg_one]
  rfl

end Step

end Cert.ReferenceIdeal.Sdtw
end
-- ==== Proof.Value.RefEntry.lean ====
/-
  What the reference's loop starts from, at the extended reals: the distances of all pairs of rows, the counter at zero,
  and a table that is infinite but for its zero corner.
-/
module

public import proofs.«01_k».proof.Proof.Gen.ReferenceIdeal.Run
public import proofs.«01_k».proof.Proof.Value.Lits
public import proofs.«01_k».proof.Proof.Value.RefStep
public import proofs.«01_k».proof.Proof.Math.Batch
public import Idealize.ShloMosaic.Lib.Routing.OpsSet
public import Idealize.ShloMosaic.Lib.Pipeline.Value
public import Idealize.ShloMosaic.Lib.Pointwise.Reduce
public import Idealize.ShloMosaic.Lib.ValueIdxCore

@[expose] public section

set_option maxRecDepth 16384

noncomputable section

namespace Cert.ReferenceIdeal.Sdtw

open Cert.ReferenceIdeal Cert.ReferenceIdeal.Gen Cert.ReferenceIdeal.Value
open Cert.SdtwMath Cert.SdtwValue
open Idealize.ShloMosaic Idealize.ShloMosaic.TcCoe Idealize.ShloMosaic.StableHlo

/-! ## The corner written into the table -/

/-- With both index words zero, update `k` lands at the corner of batch `k`. -/
theorem corner_lands (idx : IVec S2 32) (h0 : ∀ q, idx q = 0#32) (k : S64.Idx) :
    scatter_S64x513x513_S2_S64_0_12_12_0.resultIdx? k idx = some (ValueIdx.ix3 (n0 := 64) (n1 := 513) (n2 := 513) (k 0) 0 0) := by
  have hs : ∀ a, scatter_S64x513x513_S2_S64_0_12_12_0.start k idx a = 0 := fun a => by
    unfold ScatterDims.start
    split
    · rw [h0]; rfl
    · rfl
  have hw : ∀ a, scatter_S64x513x513_S2_S64_0_12_12_0.window k a = (ValueIdx.ix3 (n0 := 64) (n1 := 513) (n2 := 513) (k 0) 0 0 a).val := fun a => by
    match a with
    | ⟨0, _⟩ => rfl
    | ⟨1, _⟩ => rfl
    | ⟨2, _⟩ => rfl
  unfold ScatterDims.resultIdx?
  rw [dif_pos (fun a => by
    rw [hs, hw, zero_add]
    exact ⟨Int.natCast_nonneg _, Int.ofNat_lt.mpr (ValueIdx.ix3 (n0 := 64) (n1 := 513) (n2 := 513) (k 0) 0 0 a).isLt⟩)]
  refine congrArg some (funext fun a => Fin.ext ?_)
  show (scatter_S64x513x513_S2_S64_0_12_12_0.start k idx a + scatter_S64x513x513_S2_S64_0_12_12_0.window k a).toNat = _
  rw [hs, hw, zero_add]
  rfl

/-- The table with its corners written: the update at the corners, the rest as it was. -/
theorem corner_apply (A : S64x513x513.Idx → EReal) (idx : IVec S2 32) (h0 : ∀ q, idx q = 0#32) (u : S64.Idx → EReal)
    (b : Fin 64) (x y : Fin 513) :
    Host.scatter scatter_S64x513x513_S2_S64_0_12_12_0 (fun _ v => v) A idx u (ValueIdx.ix3 (n0 := 64) (n1 := 513) (n2 := 513) b x y)
      = if x.val = 0 ∧ y.val = 0 then u (ValueIdx.ix1 (n := 64) b) else A (ValueIdx.ix3 (n0 := 64) (n1 := 513) (n2 := 513) b x y) := by
  split
  next h =>
    have ex : x = 0 := Fin.ext h.1
    have ey : y = 0 := Fin.ext h.2
    subst ex ey
    refine Routing.scatter_set_hit _ _ _ _ _ _ (fun k hk => ?_) (ValueIdx.ix1 (n := 64) b) (corner_lands idx h0 _)
    have e := Option.some.inj ((corner_lands idx h0 k).symm.trans hk)
    have e0 : k 0 = b := congrFun e 0
    refine congrArg u (funext fun a => ?_)
    match a with
    | ⟨0, _⟩ => exact e0
  next h =>
    refine Routing.scatter_set_miss _ _ _ _ _ (fun k hk => h ?_)
    have e := Option.some.inj ((corner_lands idx h0 k).symm.trans hk)
    have e1 : (0 : Fin 513) = x := congrFun e 1
    have e2 : (0 : Fin 513) = y := congrFun e 2
    exact ⟨e1 ▸ rfl, e2 ▸ rfl⟩

/-- Two zero words joined are zero words. -/
theorem joined_zero (x0 x1 : S1.Idx → BitVec 32) (h : Shape.Concatenates [S1, S1] S2 0) (h0 : ∀ q, x0 q = 0#32) (h1 : ∀ q, x1 q = 0#32) (q : S2.Idx) :
    concatenate S2 0 [⟨S1, x0⟩, ⟨S1, x1⟩] h q = 0#32 := by
  have off : ∀ a : Fin 1, a ≠ 0 → (ValueIdx.ix1 (n := 1) 0 a).val = (q a).val := fun a ha => absurd (Fin.ext (by have := a.isLt; omega)) ha
  have hl : [(⟨S1, x0⟩ : (s : Shape) × (s.Idx → BitVec 32)), ⟨S1, x1⟩].length = 2 := rfl
  have hq : (q 0).val < 2 := (q 0).isLt
  by_cases e : (q 0).val = 0
  · exact (concatenate_apply_piece (t := S2) 0 [⟨S1, x0⟩, ⟨S1, x1⟩] h q 0 (by rw [hl]; omega) S1 x0 rfl rfl 0 rfl (ValueIdx.ix1 (n := 1) 0) off (by show 0 + 0 = (q 0).val; omega)).trans (h0 _)
  · exact (concatenate_apply_piece (t := S2) 0 [⟨S1, x0⟩, ⟨S1, x1⟩] h q 1 (by rw [hl]; omega) S1 x1 rfl rfl 1 rfl (ValueIdx.ix1 (n := 1) 0) off (by show 1 + 0 = (q 0).val; omega)).trans (h1 _)

/-! ## The distances -/

/-- The batched products: entry `(b, i, j)` is the sum of the products of row `i` of the one and row `j` of the other. -/
theorem products_apply (A B : FVec Ideal S64x512x64 .f32) (b : Fin 64) (i j : Fin 512) :
    Host.dotGeneral dot_S64x512x64_S64x512x64_S64x512x512_2_2_1_1_0_0 none A B (ValueIdx.ix3 (n0 := 64) (n1 := 512) (n2 := 512) b i j)
      = ∑ k : Fin 64, argRow A b i k * argRow B b j k := by
  show FloatOps.dotGeneral _ none _ A B _ = _
  rw [Ideal.dotGeneral_apply, ← Equiv.sum_comp (ValueIdx.contrEquiv1 dot_S64x512x64_S64x512x64_S64x512x512_2_2_1_1_0_0 64 rfl rfl).symm]
  refine Finset.sum_congr rfl fun k _ => ?_
  have ck := ValueIdx.contrEquiv1_symm_val dot_S64x512x64_S64x512x64_S64x512x512_2_2_1_1_0_0 64 rfl rfl k
  refine congrArg₂ (fun p q : EReal => p * q) (congrArg A (funext fun a => Fin.ext ?_)) (congrArg B (funext fun a => Fin.ext ?_))
  · match a with
    | ⟨0, _⟩ => rfl
    | ⟨1, _⟩ => rfl
    | ⟨2, _⟩ => exact ck
  · match a with
    | ⟨0, _⟩ => rfl
    | ⟨1, _⟩ => rfl
    | ⟨2, _⟩ => exact ck

/-- A row's squares summed. -/
theorem squares_apply (A : FVec Ideal S64x512x64 .f32) (b : Fin 64) (i : Fin 512) :
    Host.reduceAdd (mulf A A) (constant (F := Ideal) S_ .f32 0x00000000#32) reducesTo_S64x512x64_S64x512_d2 h_S_ (ValueIdx.ix2 (n0 := 64) (n1 := 512) b i)
      = ∑ k : Fin 64, argRow A b i k * argRow A b i k := by
  refine (Ideal.hostReduceAdd_r3_a2 reducesTo_S64x512x64_S64x512_d2 _ _ (ValueIdx.ix2 (n0 := 64) (n1 := 512) b i)).trans ?_
  show Ideal.ofBits .f32 0x00000000#32 + _ = _
  rw [lit_zero, zero_add]
  rfl

/-- The array of distances, as the host lines make it. -/
def distances (X Y : FVec Ideal S64x512x64 .f32) : FVec Ideal S64x512x512 .f32 :=
  Host.sqrt (maximumf
    (subf
      (addf
        (broadcastInDim S64x512x512 ![0, 1, 2] bcast_S64x512x1_S64x512x512_0_1_2 (broadcastInDim S64x512x1 ![0, 1] bcast_S64x512_S64x512x1_0_1
          (Host.reduceAdd (mulf X X) (constant (F := Ideal) S_ .f32 0x00000000#32) reducesTo_S64x512x64_S64x512_d2 h_S_)))
        (broadcastInDim S64x512x512 ![0, 1, 2] bcast_S64x1x512_S64x512x512_0_1_2 (broadcastInDim S64x1x512 ![0, 2] bcast_S64x512_S64x1x512_0_2
          (Host.reduceAdd (mulf Y Y) (constant (F := Ideal) S_ .f32 0x00000000#32) reducesTo_S64x512x64_S64x512_d2 h_S_))))
      (mulf (broadcastInDim S64x512x512 ![] bcast_S_S64x512x512 (constant (F := Ideal) S_ .f32 0x40000000#32))
        (Host.dotGeneral dot_S64x512x64_S64x512x64_S64x512x512_2_2_1_1_0_0 none X Y)))
    (broadcastInDim S64x512x512 ![] bcast_S_S64x512x512 (constant (F := Ideal) S_ .f32 0x00000000#32)))

/-- Entry `(b, i, j)` is the distance of batch `b`'s row `i` of the one and row `j` of the other. -/
theorem distances_apply (X Y : FVec Ideal S64x512x64 .f32) (b : Fin 64) (i j : Fin 512) :
    distances X Y (ValueIdx.ix3 (n0 := 64) (n1 := 512) (n2 := 512) b i j) = cost X Y b i.val j.val := by
  have hx : ∀ w : FVec Ideal S64x512 .f32,
      broadcastInDim S64x512x512 ![0, 1, 2] bcast_S64x512x1_S64x512x512_0_1_2 (broadcastInDim S64x512x1 ![0, 1] bcast_S64x512_S64x512x1_0_1 w)
        (ValueIdx.ix3 (n0 := 64) (n1 := 512) (n2 := 512) b i j) = w (ValueIdx.ix2 (n0 := 64) (n1 := 512) b i) := fun w =>
    (broadcastInDim_apply _ bcast_S64x512x1_S64x512x512_0_1_2 _ _ (ValueIdx.ix3 (n0 := 64) (n1 := 512) (n2 := 1) b i 0) (fun a => by
      match a with
      | ⟨0, _⟩ => exact (if_neg (show ¬ (64 = 1) by omega)).symm
      | ⟨1, _⟩ => exact (if_neg (show ¬ (512 = 1) by omega)).symm
      | ⟨2, _⟩ => exact (if_pos (show 1 = 1 from rfl)).symm)).trans
    (broadcastInDim_apply _ bcast_S64x512_S64x512x1_0_1 w _ _ (fun a => by
      match a with
      | ⟨0, _⟩ => exact (if_neg (show ¬ (64 = 1) by omega)).symm
      | ⟨1, _⟩ => exact (if_neg (show ¬ (512 = 1) by omega)).symm))
  have hy : ∀ w : FVec Ideal S64x512 .f32,
      broadcastInDim S64x512x512 ![0, 1, 2] bcast_S64x1x512_S64x512x512_0_1_2 (broadcastInDim S64x1x512 ![0, 2] bcast_S64x512_S64x1x512_0_2 w)
        (ValueIdx.ix3 (n0 := 64) (n1 := 512) (n2 := 512) b i j) = w (ValueIdx.ix2 (n0 := 64) (n1 := 512) b j) := fun w =>
    (broadcastInDim_apply _ bcast_S64x1x512_S64x512x512_0_1_2 _ _ (ValueIdx.ix3 (n0 := 64) (n1 := 1) (n2 := 512) b 0 j) (fun a => by
      match a with
      | ⟨0, _⟩ => exact (if_neg (show ¬ (64 = 1) by omega)).symm
      | ⟨1, _⟩ => exact (if_pos (show 1 = 1 from rfl)).symm
      | ⟨2, _⟩ => exact (if_neg (show ¬ (512 = 1) by omega)).symm)).trans
    (broadcastInDim_apply _ bcast_S64x512_S64x1x512_0_2 w _ _ (fun a => by
      match a with
      | ⟨0, _⟩ => exact (if_neg (show ¬ (64 = 1) by omega)).symm
      | ⟨1, _⟩ => exact (if_neg (show ¬ (512 = 1) by omega)).symm))
  rw [cost_of_lt]
  unfold SdtwMath.dist
  refine Eq.trans ?_ (congrArg Ideal.sqrt (congrArg₂ (fun p q : EReal => max p q)
    (congrArg₂ (fun p q : EReal => p - q)
      (congrArg₂ (fun p q : EReal => p + q) ((hx _).trans (squares_apply X b i)) ((hy _).trans (squares_apply Y b j)))
      (congrArg₂ (fun p q : EReal => p * q) lit_two (products_apply X Y b i j))) lit_zero))
  rfl

/-! ## The first table -/

/-- The first table, as the host lines make it. -/
def firstTable : FVec Ideal S64x513x513 .f32 :=
  Host.scatter scatter_S64x513x513_S2_S64_0_12_12_0 (fun _ v => v)
    (broadcastInDim S64x513x513 ![] bcast_S_S64x513x513 (constant (F := Ideal) S_ .f32 0x7F800000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (broadcastInDim S64 ![] bcast_S_S64 (constant (F := Ideal) S_ .f32 0x00000000#32))

/-- It is infinite but for zero corners. -/
theorem firstTable_apply (b : Fin 64) (x y : Fin 513) :
    firstTable (ValueIdx.ix3 (n0 := 64) (n1 := 513) (n2 := 513) b x y) = if x.val = 0 ∧ y.val = 0 then (0 : EReal) else ⊤ := by
  refine (corner_apply _ _ (joined_zero _ _ _ (fun _ => rfl) (fun _ => rfl)) _ b x y).trans ?_
  split
  · exact lit_zero
  · exact lit_inf

/-! ## The contents at the loop's entry -/

section Entry

variable (m : (ℓ : Loc nD τ sig) → Buf (Elt Ideal) ℓ) (c : Dev nD)

/-- The counter of the cells starts at zero. -/
theorem entry_count : entryContents preI m c (Proc.devRef .tc main_v22_2) = word 0 := by
  simp only [entryContents, afterL_cons, afterL_nil]
  after_reads_simp
  rfl

set_option maxHeartbeats 1000000 in
/-- The loop reads the array of distances of the two arguments. -/
theorem entry_dst : entryContents preI m c (Proc.devRef .tc main_v22_0)
    = distances (m ((c : Thread nD τ).loc main_arg0)) (m ((c : Thread nD τ).loc main_arg1)) := by
  simp only [entryContents, afterL_cons, afterL_nil]
  after_reads_simp
  rfl

/-- The loop reads the table of zero corners. -/
theorem entry_tbl : entryContents preI m c (Proc.devRef .tc main_v22_3) = firstTable := by
  simp only [entryContents, afterL_cons, afterL_nil]
  simp (disch := decide) only [readAfter, readUpto, unary_result', ternary_result', nullary_result']
  rw [binary_result']
  have h17 : upto hostOps0 (launchContents m c) 26 (Proc.devRef .tc main_v17) = broadcastInDim S1 ![] bcast_S_S1 (constantI S_ 32 0#32) := by
    after_reads_simp
  have h18 : upto hostOps0 (launchContents m c) 26 (Proc.devRef .tc main_v18) = broadcastInDim S1 ![] bcast_S_S1 (constantI S_ 32 0#32) := by
    after_reads_simp
  rw [h17, h18, id_eq]
  unfold firstTable
  with_reducible rfl

end Entry

end Cert.ReferenceIdeal.Sdtw
end
-- ==== Proof.Value.RefRun.lean ====
/-
  What the reference's program ends with: after k trips the first k cells of every batch's table, row by row, hold the
  table of its costs, and entry b of the result is the last entry of batch b's table.
-/
module

public import proofs.«01_k».proof.Proof.Value.RefEntry

@[expose] public section

set_option maxRecDepth 16384

noncomputable section

namespace Cert.ReferenceIdeal.Sdtw

open Cert.ReferenceIdeal Cert.ReferenceIdeal.Gen Cert.ReferenceIdeal.Value
open Cert.SdtwMath Cert.SdtwValue
open Idealize.ShloMosaic Idealize.ShloMosaic.TcCoe Idealize.ShloMosaic.StableHlo

/-- The contents after `k` trips for two arguments: the counter at `k`, the distances, and the table's edge and its first
    `k` cells, row by row. -/
structure After (X Y : S64x512x64.Idx → EReal) (k : ℕ) (V : Valuation τ sig (Elt Ideal)) : Prop where
  count : V (Proc.devRef .tc main_v22_2) = word k
  dists : ∀ (b : Fin 64) (i j : Fin 512), dst V (ValueIdx.ix3 (n0 := 64) (n1 := 512) (n2 := 512) b i j) = cost X Y b i.val j.val
  cells : ∀ (b : Fin 64) (x y : Fin 513), (x.val = 0 ∨ y.val = 0 ∨ 512 * (x.val - 1) + (y.val - 1) < k) →
    tbl V (ValueIdx.ix3 (n0 := 64) (n1 := 513) (n2 := 513) b x y) = tab (cost X Y b) x.val y.val

/-- One trip more. -/
theorem After.step {X Y : S64x512x64.Idx → EReal} {k : ℕ} {V : Valuation τ sig (Elt Ideal)} (h : After X Y k V) (hk : k < 262144) :
    After X Y (k + 1) (STEP V) := by
  obtain ⟨i, j, hi, hj, rfl⟩ : ∃ i j, i < 512 ∧ j < 512 ∧ k = 512 * i + j := ⟨k / 512, k % 512, by omega, by omega, by omega⟩
  have n0 : ∀ b, nbr i j hi hj (tbl V) b 0 = tab (cost X Y b) i j := fun b => h.cells b ⟨i, by omega⟩ ⟨j, by omega⟩ (by
    show i = 0 ∨ j = 0 ∨ 512 * (i - 1) + (j - 1) < 512 * i + j; omega)
  have n1 : ∀ b, nbr i j hi hj (tbl V) b 1 = tab (cost X Y b) i (j + 1) := fun b => h.cells b ⟨i, by omega⟩ ⟨j + 1, by omega⟩ (by
    show i = 0 ∨ j + 1 = 0 ∨ 512 * (i - 1) + (j + 1 - 1) < 512 * i + j; omega)
  have n2 : ∀ b, nbr i j hi hj (tbl V) b 2 = tab (cost X Y b) (i + 1) j := fun b => h.cells b ⟨i + 1, by omega⟩ ⟨j, by omega⟩ (by
    show i + 1 = 0 ∨ j = 0 ∨ 512 * (i + 1 - 1) + (j - 1) < 512 * i + j; omega)
  have hN : ∀ b r, nbr i j hi hj (tbl V) b r ≠ ⊥ := fun b r => by
    match r with
    | ⟨0, _⟩ => exact fun e => tab_ne_bot _ (cost_ne_bot X Y b) i j ((n0 b).symm.trans e)
    | ⟨1, _⟩ => exact fun e => tab_ne_bot _ (cost_ne_bot X Y b) i (j + 1) ((n1 b).symm.trans e)
    | ⟨2, _⟩ => exact fun e => tab_ne_bot _ (cost_ne_bot X Y b) (i + 1) j ((n2 b).symm.trans e)
  refine ⟨?_, fun b x y => ?_, fun b x y hxy => ?_⟩
  · rw [STEP_main_v22_2]
    show addi (V (Proc.devRef .tc main_v22_2)) (constantI S_ 32 1#32) = _
    rw [h.count]
    exact word_succ _
  · show STEP V (Proc.devRef .tc main_v22_0) _ = _
    rw [STEP_main_v22_0]
    exact h.dists b x y
  · show STEP V (Proc.devRef .tc main_v22_3) _ = _
    rw [STEP_main_v22_3]
    refine (step_apply V i j hi hj h.count hN b x y).trans ?_
    split
    next e =>
      rw [n0, n1, n2, e.1, e.2, tab_cell]
      exact congrArg (fun p : EReal => p + _) (h.dists b ⟨i, hi⟩ ⟨j, hj⟩)
    next e => exact h.cells b x y (by have := x.isLt; have := y.isLt; omega)

variable (m : (ℓ : Loc nD τ sig) → Buf (Elt Ideal) ℓ) (c : Dev nD)

/-- The loop's entry: only the table's edge. -/
theorem after_zero : After (m ((c : Thread nD τ).loc main_arg0)) (m ((c : Thread nD τ).loc main_arg1)) 0 (entryContents preI m c) := by
  refine ⟨entry_count m c, fun b i j => ?_, fun b x y hxy => ?_⟩
  · show entryContents preI m c (Proc.devRef .tc main_v22_0) _ = _
    rw [entry_dst]
    exact distances_apply _ _ b i j
  · show entryContents preI m c (Proc.devRef .tc main_v22_3) _ = _
    rw [entry_tbl]
    refine (firstTable_apply b x y).trans ?_
    obtain ⟨x, hx⟩ := x
    obtain ⟨y, hy⟩ := y
    match x, y with
    | 0, 0 => exact (tab_corner _).symm
    | 0, y + 1 => exact (if_neg (by simp)).trans (tab_top _ y).symm
    | x + 1, 0 => exact (if_neg (by simp)).trans (tab_left _ x).symm
    | x + 1, y + 1 => exact absurd hxy (by simp)

/-- After any number of trips up to all of them. -/
theorem after_trips : ∀ k, k ≤ 262144 →
    After (m ((c : Thread nD τ).loc main_arg0)) (m ((c : Thread nD τ).loc main_arg1)) k (STEP^[k] (entryContents preI m c))
  | 0, _ => after_zero m c
  | k + 1, h => by
    rw [Function.iterate_succ_apply']
    exact (after_trips k (by omega)).step (by omega)

/-- The result: each batch's last table entry. -/
theorem out_eq : out_main_v24 (STEP^[262144] (entryContents preI m c))
    = fun b : S64.Idx => sdtw (m ((c : Thread nD τ).loc main_arg0)) (m ((c : Thread nD τ).loc main_arg1)) (b 0) := by
  have h := (after_trips m c 262144 (Nat.le_refl _)).cells
  revert h
  generalize STEP^[262144] (entryContents preI m c) = V
  intro h
  funext b
  unfold out_main_v24
  refine (shapeCast_apply _ _ b (ValueIdx.ix3 (n0 := 64) (n1 := 1) (n2 := 1) (b 0) 0 0) ?_).trans ?_
  · refine (rowMajor_val3 (d := ![64, 1, 1]) (ValueIdx.ix3 (n0 := 64) (n1 := 1) (n2 := 1) (b 0) 0 0) 1 1 rfl rfl).trans (Eq.trans ?_ (rowMajor_val1 (d := ![64]) b).symm)
    show (b 0).val * (1 * 1) + (0 * 1 + 0) = (b 0).val
    omega
  · refine (extractStridedSlice_apply _ _ _ _ (ValueIdx.ix3 (n0 := 64) (n1 := 513) (n2 := 513) (b 0) ⟨512, by omega⟩ ⟨512, by omega⟩) (fun a => ?_)).trans
      (h (b 0) ⟨512, by omega⟩ ⟨512, by omega⟩ (Or.inr (Or.inr (by show 512 * (512 - 1) + (512 - 1) < 262144; omega))))
    match a with
    | ⟨0, _⟩ => exact (Nat.zero_add _).symm
    | ⟨1, _⟩ => rfl
    | ⟨2, _⟩ => rfl

end Cert.ReferenceIdeal.Sdtw
end
-- ==== Proof.Claims.Algebraic.lean ====
/-
  The equation: over the extended reals the kernel and the reference end with the same result, the last entry of each
  batch's table.
-/
module

public import proofs.«01_k».proof.Defs
public import proofs.«01_k».proof.Proof.Value.Output
public import proofs.«01_k».proof.Proof.Value.RefRun

@[expose] public section

noncomputable section

namespace Cert.SdtwClaims

open Idealize.ShloMosaic Idealize.ShloMosaic.TcCoe Idealize.SL.Sem

/-- The kernel's run: the result and the arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
        = (fun b : Cert.KernelIdeal.S64.Idx => SdtwMath.sdtw (m ((c.tc : Thread Cert.KernelIdeal.nD Cert.KernelIdeal.τ).loc Cert.KernelIdeal.main_arg0))
            (m ((c.tc : Thread Cert.KernelIdeal.nD Cert.KernelIdeal.τ).loc Cert.KernelIdeal.main_arg1)) (b 0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨((h.1 c).2 Cert.KernelIdeal.main_v0 (Pipeline.mem_restRefs_of Cert.KernelIdeal.main_v0 (by decide) (by decide))).trans (Cert.KernelIdeal.Sdtw.W_v0 m c),
      ((h.1 c).2 Cert.KernelIdeal.main_arg0 (Pipeline.mem_restRefs_of Cert.KernelIdeal.main_arg0 (by decide) (by decide))).trans (Cert.KernelIdeal.Sdtw.W_arg0 m c),
      ((h.1 c).2 Cert.KernelIdeal.main_arg1 (Pipeline.mem_restRefs_of Cert.KernelIdeal.main_arg1 (by decide) (by decide))).trans (Cert.KernelIdeal.Sdtw.W_arg1 m c)⟩)
    (Cert.KernelIdeal.Sdtw.run_main m ρ)

/-- From the same arguments, the kernel and the reference end with the same result. -/
theorem algebraic : Cert.algebraic_KernelIdeal_ReferenceIdeal := fun m g m' g' _ hargs =>
  ⟨fun c => (fun b : Cert.KernelIdeal.S64.Idx => SdtwMath.sdtw (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (b 0)),
    kernel_run m g,
    (θ_run Cert.ReferenceIdeal.defs _ _).mono (fun r h c => ⟨(h c).1.trans ((Cert.ReferenceIdeal.Sdtw.out_eq m' c).trans (by
        rw [(hargs c).1, (hargs c).2])), (h c).2⟩)
      (Cert.ReferenceIdeal.Value.run (F := Ideal) m' g')⟩

end Cert.SdtwClaims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Claims.Frames
public import proofs.«01_k».proof.Proof.Claims.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    SdtwClaims.frame_p, SdtwClaims.frame_pi, SdtwClaims.frame_ri, SdtwClaims.preserves, SdtwClaims.algebraic⟩

end Cert.Proof

end
